-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v441) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S128x2048 : Shape := ⟨2, ![128, 2048]⟩
abbrev S8x2048 : Shape := ⟨2, ![8, 2048]⟩
abbrev S136x2048 : Shape := ⟨2, ![136, 2048]⟩

abbrev nBuf : Space → Nat
  | .hbm => 5
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x2048 : Shape := ⟨2, ![2048, 2048]⟩
abbrev S1023 : Shape := ⟨1, ![1023]⟩
abbrev S_ : Shape := ⟨0, ![]⟩
abbrev S1023x1 : Shape := ⟨2, ![1023, 1]⟩
abbrev S3 : Shape := ⟨1, ![3]⟩
abbrev S1x3 : Shape := ⟨2, ![1, 3]⟩
abbrev S1023x3 : Shape := ⟨2, ![1023, 3]⟩
abbrev S1023x1x3x1 : Shape := ⟨4, ![1023, 1, 3, 1]⟩
abbrev S1x1023x1x3 : Shape := ⟨4, ![1, 1023, 1, 3]⟩
abbrev S1023x1023x3x3 : Shape := ⟨4, ![1023, 1023, 3, 3]⟩
abbrev S1023x1023x3x3x1 : Shape := ⟨5, ![1023, 1023, 3, 3, 1]⟩
abbrev S1023x1023x3x3x2 : Shape := ⟨5, ![1023, 1023, 3, 3, 2]⟩
abbrev S1023x1023x9 : Shape := ⟨3, ![1023, 1023, 9]⟩
abbrev S1023x1023 : Shape := ⟨2, ![1023, 1023]⟩
abbrev S1023x1023x1 : Shape := ⟨3, ![1023, 1023, 1]⟩
abbrev S9 : Shape := ⟨1, ![9]⟩
abbrev S1023x1023x1x1 : Shape := ⟨4, ![1023, 1023, 1, 1]⟩
abbrev S1 : Shape := ⟨1, ![1]⟩
abbrev S1x1x1x1 : Shape := ⟨4, ![1, 1, 1, 1]⟩
abbrev S2048 : Shape := ⟨1, ![2048]⟩
abbrev S2048x1 : Shape := ⟨2, ![2048, 1]⟩
abbrev S1x2048 : Shape := ⟨2, ![1, 2048]⟩
abbrev S2048x2048x1 : Shape := ⟨3, ![2048, 2048, 1]⟩
abbrev S2048x2048x2 : Shape := ⟨3, ![2048, 2048, 2]⟩

abbrev nBuf : Space → Nat
  | .hbm => 769
  | .vmem => 0
  | .smem => 0
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S1023, .i32⟩
  | 4 => ⟨S_, .i32⟩
  | 5 => ⟨S1023, .i32⟩
  | 6 => ⟨S1023, .i32⟩
  | 7 => ⟨S1023, .i32⟩
  | 8 => ⟨S_, .i32⟩
  | 9 => ⟨S1023, .i32⟩
  | 10 => ⟨S1023, .i32⟩
  | 11 => ⟨S1023x1, .i32⟩
  | 12 => ⟨S3, .i32⟩
  | 13 => ⟨S1x3, .i32⟩
  | 14 => ⟨S1023x3, .i32⟩
  | 15 => ⟨S1023x3, .i32⟩
  | 16 => ⟨S1023x3, .i32⟩
  | 17 => ⟨S1023x1, .i32⟩
  | 18 => ⟨S3, .i32⟩
  | 19 => ⟨S1x3, .i32⟩
  | 20 => ⟨S1023x3, .i32⟩
  | 21 => ⟨S1023x3, .i32⟩
  | 22 => ⟨S1023x3, .i32⟩
  | 23 => ⟨S1023x1x3x1, .i32⟩
  | 24 => ⟨S1x1023x1x3, .i32⟩
  | 25 => ⟨S_, .i32⟩
  | 26 => ⟨S1023x1x3x1, .i32⟩
  | 27 => ⟨S1023x1x3x1, .i1⟩
  | 28 => ⟨S_, .i32⟩
  | 29 => ⟨S1023x1x3x1, .i32⟩
  | 30 => ⟨S1023x1x3x1, .i32⟩
  | 31 => ⟨S1023x1x3x1, .i32⟩
  | 32 => ⟨S_, .i32⟩
  | 33 => ⟨S1x1023x1x3, .i32⟩
  | 34 => ⟨S1x1023x1x3, .i1⟩
  | 35 => ⟨S_, .i32⟩
  | 36 => ⟨S1x1023x1x3, .i32⟩
  | 37 => ⟨S1x1023x1x3, .i32⟩
  | 38 => ⟨S1x1023x1x3, .i32⟩
  | 39 => ⟨S1023x1023x3x3, .i32⟩
  | 40 => ⟨S1023x1023x3x3, .i32⟩
  | 41 => ⟨S1023x1023x3x3x1, .i32⟩
  | 42 => ⟨S1023x1023x3x3x1, .i32⟩
  | 43 => ⟨S1023x1023x3x3x2, .i32⟩
  | 44 => ⟨S1023x1023x3x3, .f32⟩
  | 45 => ⟨S1023x1x3x1, .i32⟩
  | 46 => ⟨S1x1023x1x3, .i32⟩
  | 47 => ⟨S_, .i32⟩
  | 48 => ⟨S1023x1x3x1, .i32⟩
  | 49 => ⟨S1023x1x3x1, .i1⟩
  | 50 => ⟨S_, .i32⟩
  | 51 => ⟨S1023x1x3x1, .i32⟩
  | 52 => ⟨S1023x1x3x1, .i32⟩
  | 53 => ⟨S1023x1x3x1, .i32⟩
  | 54 => ⟨S_, .i32⟩
  | 55 => ⟨S1x1023x1x3, .i32⟩
  | 56 => ⟨S1x1023x1x3, .i1⟩
  | 57 => ⟨S_, .i32⟩
  | 58 => ⟨S1x1023x1x3, .i32⟩
  | 59 => ⟨S1x1023x1x3, .i32⟩
  | 60 => ⟨S1x1023x1x3, .i32⟩
  | 61 => ⟨S1023x1023x3x3, .i32⟩
  | 62 => ⟨S1023x1023x3x3, .i32⟩
  | 63 => ⟨S1023x1023x3x3x1, .i32⟩
  | 64 => ⟨S1023x1023x3x3x1, .i32⟩
  | 65 => ⟨S1023x1023x3x3x2, .i32⟩
  | 66 => ⟨S1023x1023x3x3, .f32⟩
  | 67 => ⟨S1023x1023x3x3, .f32⟩
  | 68 => ⟨S1023x1023x3x3, .f32⟩
  | 69 => ⟨S1023x1023x9, .f32⟩
  | 70 => ⟨S_, .f32⟩
  | 71 => ⟨S1023x1023, .f32⟩
  | 72 => ⟨S1023x1023x1, .f32⟩
  | 73 => ⟨S1023x1023x9, .f32⟩
  | 74 => ⟨S1023x1023x9, .i1⟩
  | 75 => ⟨S9, .i32⟩
  | 76 => ⟨S_, .i32⟩
  | 77 => ⟨S_, .i32⟩
  | 78 => ⟨S1023x1023x9, .i32⟩
  | 79 => ⟨S1023x1023x9, .i32⟩
  | 80 => ⟨S1023x1023x9, .i32⟩
  | 81 => ⟨S_, .i32⟩
  | 82 => ⟨S1023x1023, .i32⟩
  | 83 => ⟨S1023x1023x9, .f32⟩
  | 84 => ⟨S1023x1023x1, .i32⟩
  | 85 => ⟨S_, .i32⟩
  | 86 => ⟨S1023x1023x1, .i32⟩
  | 87 => ⟨S1023x1023x1, .i1⟩
  | 88 => ⟨S_, .i32⟩
  | 89 => ⟨S1023x1023x1, .i32⟩
  | 90 => ⟨S1023x1023x1, .i32⟩
  | 91 => ⟨S1023x1023x1, .i32⟩
  | 92 => ⟨S1023x1023x1x1, .i32⟩
  | 93 => ⟨S1, .i32⟩
  | 94 => ⟨S_, .i32⟩
  | 95 => ⟨S1023x1023x1x1, .i32⟩
  | 96 => ⟨S1023x1023x1x1, .i1⟩
  | 97 => ⟨S1x1x1x1, .i32⟩
  | 98 => ⟨S1023x1023x1x1, .i32⟩
  | 99 => ⟨S1023x1023x1x1, .i1⟩
  | 100 => ⟨S1023x1023x1x1, .i1⟩
  | 101 => ⟨S_, .i1⟩
  | 102 => ⟨S1023x1023x1, .i1⟩
  | 103 => ⟨S1023x1023x1, .f32⟩
  | 104 => ⟨S_, .f32⟩
  | 105 => ⟨S1023x1023x1, .f32⟩
  | 106 => ⟨S1023x1023x1, .f32⟩
  | 107 => ⟨S1023x1023, .f32⟩
  | 108 => ⟨S2048, .i32⟩
  | 109 => ⟨S2048, .i32⟩
  | 110 => ⟨S_, .i32⟩
  | 111 => ⟨S_, .i32⟩
  | 112 => ⟨S2048, .i32⟩
  | 113 => ⟨S2048, .i32⟩
  | 114 => ⟨S2048, .i32⟩
  | 115 => ⟨S_, .i32⟩
  | 116 => ⟨S2048, .i32⟩
  | 117 => ⟨S2048, .i1⟩
  | 118 => ⟨S2048, .i32⟩
  | 119 => ⟨S2048, .i32⟩
  | 120 => ⟨S_, .i32⟩
  | 121 => ⟨S2048, .i32⟩
  | 122 => ⟨S2048, .i1⟩
  | 123 => ⟨S2048, .i1⟩
  | 124 => ⟨S_, .i32⟩
  | 125 => ⟨S2048, .i32⟩
  | 126 => ⟨S2048, .i32⟩
  | 127 => ⟨S2048, .i32⟩
  | _ => ⟨S2048x2048, .f32⟩

abbrev hbmTy0_1 (i : Nat) : BufTy := match i % 128 with
  | 0 => ⟨S_, .i32⟩
  | 1 => ⟨S2048, .i32⟩
  | 2 => ⟨S2048, .i32⟩
  | 3 => ⟨S_, .i32⟩
  | 4 => ⟨S_, .i32⟩
  | 5 => ⟨S2048, .i32⟩
  | 6 => ⟨S2048, .i32⟩
  | 7 => ⟨S2048, .i32⟩
  | 8 => ⟨S_, .i32⟩
  | 9 => ⟨S2048, .i32⟩
  | 10 => ⟨S2048, .i1⟩
  | 11 => ⟨S2048, .i32⟩
  | 12 => ⟨S2048, .i32⟩
  | 13 => ⟨S_, .i32⟩
  | 14 => ⟨S2048, .i32⟩
  | 15 => ⟨S2048, .i1⟩
  | 16 => ⟨S2048, .i1⟩
  | 17 => ⟨S_, .i32⟩
  | 18 => ⟨S2048, .i32⟩
  | 19 => ⟨S2048, .i32⟩
  | 20 => ⟨S2048, .i32⟩
  | 21 => ⟨S_, .i32⟩
  | 22 => ⟨S2048, .i32⟩
  | 23 => ⟨S2048, .i32⟩
  | 24 => ⟨S_, .i32⟩
  | 25 => ⟨S2048, .i32⟩
  | 26 => ⟨S2048, .i32⟩
  | 27 => ⟨S2048, .i32⟩
  | 28 => ⟨S_, .i32⟩
  | 29 => ⟨S2048, .i32⟩
  | 30 => ⟨S2048, .i1⟩
  | 31 => ⟨S_, .i32⟩
  | 32 => ⟨S2048, .i32⟩
  | 33 => ⟨S2048, .i32⟩
  | 34 => ⟨S2048, .i32⟩
  | 35 => ⟨S_, .i32⟩
  | 36 => ⟨S2048, .i32⟩
  | 37 => ⟨S2048, .i1⟩
  | 38 => ⟨S2048x1, .i1⟩
  | 39 => ⟨S1x2048, .i1⟩
  | 40 => ⟨S2048x2048, .i1⟩
  | 41 => ⟨S2048x2048, .i1⟩
  | 42 => ⟨S2048x2048, .i1⟩
  | 43 => ⟨S2048x1, .i32⟩
  | 44 => ⟨S1x2048, .i32⟩
  | 45 => ⟨S_, .i32⟩
  | 46 => ⟨S2048x1, .i32⟩
  | 47 => ⟨S2048x1, .i1⟩
  | 48 => ⟨S_, .i32⟩
  | 49 => ⟨S2048x1, .i32⟩
  | 50 => ⟨S2048x1, .i32⟩
  | 51 => ⟨S2048x1, .i32⟩
  | 52 => ⟨S_, .i32⟩
  | 53 => ⟨S1x2048, .i32⟩
  | 54 => ⟨S1x2048, .i1⟩
  | 55 => ⟨S_, .i32⟩
  | 56 => ⟨S1x2048, .i32⟩
  | 57 => ⟨S1x2048, .i32⟩
  | 58 => ⟨S1x2048, .i32⟩
  | 59 => ⟨S2048x2048, .i32⟩
  | 60 => ⟨S2048x2048, .i32⟩
  | 61 => ⟨S2048x2048x1, .i32⟩
  | 62 => ⟨S2048x2048x1, .i32⟩
  | 63 => ⟨S2048x2048x2, .i32⟩
  | 64 => ⟨S2048x2048, .f32⟩
  | 65 => ⟨S2048x2048, .f32⟩
  | 66 => ⟨S1023, .i32⟩
  | 67 => ⟨S_, .i32⟩
  | 68 => ⟨S1023, .i32⟩
  | 69 => ⟨S1023, .i32⟩
  | 70 => ⟨S1023, .i32⟩
  | 71 => ⟨S_, .i32⟩
  | 72 => ⟨S1023, .i32⟩
  | 73 => ⟨S1023, .i32⟩
  | 74 => ⟨S1023x1, .i32⟩
  | 75 => ⟨S3, .i32⟩
  | 76 => ⟨S1x3, .i32⟩
  | 77 => ⟨S1023x3, .i32⟩
  | 78 => ⟨S1023x3, .i32⟩
  | 79 => ⟨S1023x3, .i32⟩
  | 80 => ⟨S1023x1, .i32⟩
  | 81 => ⟨S3, .i32⟩
  | 82 => ⟨S1x3, .i32⟩
  | 83 => ⟨S1023x3, .i32⟩
  | 84 => ⟨S1023x3, .i32⟩
  | 85 => ⟨S1023x3, .i32⟩
  | 86 => ⟨S1023x1x3x1, .i32⟩
  | 87 => ⟨S1x1023x1x3, .i32⟩
  | 88 => ⟨S_, .i32⟩
  | 89 => ⟨S1023x1x3x1, .i32⟩
  | 90 => ⟨S1023x1x3x1, .i1⟩
  | 91 => ⟨S_, .i32⟩
  | 92 => ⟨S1023x1x3x1, .i32⟩
  | 93 => ⟨S1023x1x3x1, .i32⟩
  | 94 => ⟨S1023x1x3x1, .i32⟩
  | 95 => ⟨S_, .i32⟩
  | 96 => ⟨S1x1023x1x3, .i32⟩
  | 97 => ⟨S1x1023x1x3, .i1⟩
  | 98 => ⟨S_, .i32⟩
  | 99 => ⟨S1x1023x1x3, .i32⟩
  | 100 => ⟨S1x1023x1x3, .i32⟩
  | 101 => ⟨S1x1023x1x3, .i32⟩
  | 102 => ⟨S1023x1023x3x3, .i32⟩
  | 103 => ⟨S1023x1023x3x3, .i32⟩
  | 104 => ⟨S1023x1023x3x3x1, .i32⟩
  | 105 => ⟨S1023x1023x3x3x1, .i32⟩
  | 106 => ⟨S1023x1023x3x3x2, .i32⟩
  | 107 => ⟨S1023x1023x3x3, .f32⟩
  | 108 => ⟨S1023x1x3x1, .i32⟩
  | 109 => ⟨S1x1023x1x3, .i32⟩
  | 110 => ⟨S_, .i32⟩
  | 111 => ⟨S1023x1x3x1, .i32⟩
  | 112 => ⟨S1023x1x3x1, .i1⟩
  | 113 => ⟨S_, .i32⟩
  | 114 => ⟨S1023x1x3x1, .i32⟩
  | 115 => ⟨S1023x1x3x1, .i32⟩
  | 116 => ⟨S1023x1x3x1, .i32⟩
  | 117 => ⟨S_, .i32⟩
  | 118 => ⟨S1x1023x1x3, .i32⟩
  | 119 => ⟨S1x1023x1x3, .i1⟩
  | 120 => ⟨S_, .i32⟩
  | 121 => ⟨S1x1023x1x3, .i32⟩
  | 122 => ⟨S1x1023x1x3, .i32⟩
  | 123 => ⟨S1x1023x1x3, .i32⟩
  | 124 => ⟨S1023x1023x3x3, .i32⟩
  | 125 => ⟨S1023x1023x3x3, .i32⟩
  | 126 => ⟨S1023x1023x3x3x1, .i32⟩
  | 127 => ⟨S1023x1023x3x3x1, .i32⟩
  | _ => ⟨S2048x2048, .f32⟩

abbrev hbmTy0_2 (i : Nat) : BufTy := match i % 128 with
  | 0 => ⟨S1023x1023x3x3x2, .i32⟩
  | 1 => ⟨S1023x1023x3x3, .f32⟩
  | 2 => ⟨S1023x1023x3x3, .f32⟩
  | 3 => ⟨S1023x1023x3x3, .f32⟩
  | 4 => ⟨S1023x1023x9, .f32⟩
  | 5 => ⟨S_, .f32⟩
  | 6 => ⟨S1023x1023, .f32⟩
  | 7 => ⟨S1023x1023x1, .f32⟩
  | 8 => ⟨S1023x1023x9, .f32⟩
  | 9 => ⟨S1023x1023x9, .i1⟩
  | 10 => ⟨S9, .i32⟩
  | 11 => ⟨S_, .i32⟩
  | 12 => ⟨S_, .i32⟩
  | 13 => ⟨S1023x1023x9, .i32⟩
  | 14 => ⟨S1023x1023x9, .i32⟩
  | 15 => ⟨S1023x1023x9, .i32⟩
  | 16 => ⟨S_, .i32⟩
  | 17 => ⟨S1023x1023, .i32⟩
  | 18 => ⟨S1023x1023x9, .f32⟩
  | 19 => ⟨S1023x1023x1, .i32⟩
  | 20 => ⟨S_, .i32⟩
  | 21 => ⟨S1023x1023x1, .i32⟩
  | 22 => ⟨S1023x1023x1, .i1⟩
  | 23 => ⟨S_, .i32⟩
  | 24 => ⟨S1023x1023x1, .i32⟩
  | 25 => ⟨S1023x1023x1, .i32⟩
  | 26 => ⟨S1023x1023x1, .i32⟩
  | 27 => ⟨S1023x1023x1x1, .i32⟩
  | 28 => ⟨S1, .i32⟩
  | 29 => ⟨S_, .i32⟩
  | 30 => ⟨S1023x1023x1x1, .i32⟩
  | 31 => ⟨S1023x1023x1x1, .i1⟩
  | 32 => ⟨S1x1x1x1, .i32⟩
  | 33 => ⟨S1023x1023x1x1, .i32⟩
  | 34 => ⟨S1023x1023x1x1, .i1⟩
  | 35 => ⟨S1023x1023x1x1, .i1⟩
  | 36 => ⟨S_, .i1⟩
  | 37 => ⟨S1023x1023x1, .i1⟩
  | 38 => ⟨S1023x1023x1, .f32⟩
  | 39 => ⟨S_, .f32⟩
  | 40 => ⟨S1023x1023x1, .f32⟩
  | 41 => ⟨S1023x1023x1, .f32⟩
  | 42 => ⟨S1023x1023, .f32⟩
  | 43 => ⟨S2048, .i32⟩
  | 44 => ⟨S2048, .i32⟩
  | 45 => ⟨S_, .i32⟩
  | 46 => ⟨S_, .i32⟩
  | 47 => ⟨S2048, .i32⟩
  | 48 => ⟨S2048, .i32⟩
  | 49 => ⟨S2048, .i32⟩
  | 50 => ⟨S_, .i32⟩
  | 51 => ⟨S2048, .i32⟩
  | 52 => ⟨S2048, .i1⟩
  | 53 => ⟨S2048, .i32⟩
  | 54 => ⟨S2048, .i32⟩
  | 55 => ⟨S_, .i32⟩
  | 56 => ⟨S2048, .i32⟩
  | 57 => ⟨S2048, .i1⟩
  | 58 => ⟨S2048, .i1⟩
  | 59 => ⟨S_, .i32⟩
  | 60 => ⟨S2048, .i32⟩
  | 61 => ⟨S2048, .i32⟩
  | 62 => ⟨S2048, .i32⟩
  | 63 => ⟨S_, .i32⟩
  | 64 => ⟨S2048, .i32⟩
  | 65 => ⟨S2048, .i32⟩
  | 66 => ⟨S_, .i32⟩
  | 67 => ⟨S_, .i32⟩
  | 68 => ⟨S2048, .i32⟩
  | 69 => ⟨S2048, .i32⟩
  | 70 => ⟨S2048, .i32⟩
  | 71 => ⟨S_, .i32⟩
  | 72 => ⟨S2048, .i32⟩
  | 73 => ⟨S2048, .i1⟩
  | 74 => ⟨S2048, .i32⟩
  | 75 => ⟨S2048, .i32⟩
  | 76 => ⟨S_, .i32⟩
  | 77 => ⟨S2048, .i32⟩
  | 78 => ⟨S2048, .i1⟩
  | 79 => ⟨S2048, .i1⟩
  | 80 => ⟨S_, .i32⟩
  | 81 => ⟨S2048, .i32⟩
  | 82 => ⟨S2048, .i32⟩
  | 83 => ⟨S2048, .i32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S2048, .i32⟩
  | 91 => ⟨S_, .i32⟩
  | 92 => ⟨S2048, .i32⟩
  | 93 => ⟨S2048, .i1⟩
  | 94 => ⟨S_, .i32⟩
  | 95 => ⟨S2048, .i32⟩
  | 96 => ⟨S2048, .i32⟩
  | 97 => ⟨S2048, .i32⟩
  | 98 => ⟨S_, .i32⟩
  | 99 => ⟨S2048, .i32⟩
  | 100 => ⟨S2048, .i1⟩
  | 101 => ⟨S2048x1, .i1⟩
  | 102 => ⟨S1x2048, .i1⟩
  | 103 => ⟨S2048x2048, .i1⟩
  | 104 => ⟨S2048x2048, .i1⟩
  | 105 => ⟨S2048x2048, .i1⟩
  | 106 => ⟨S2048x1, .i32⟩
  | 107 => ⟨S1x2048, .i32⟩
  | 108 => ⟨S_, .i32⟩
  | 109 => ⟨S2048x1, .i32⟩
  | 110 => ⟨S2048x1, .i1⟩
  | 111 => ⟨S_, .i32⟩
  | 112 => ⟨S2048x1, .i32⟩
  | 113 => ⟨S2048x1, .i32⟩
  | 114 => ⟨S2048x1, .i32⟩
  | 115 => ⟨S_, .i32⟩
  | 116 => ⟨S1x2048, .i32⟩
  | 117 => ⟨S1x2048, .i1⟩
  | 118 => ⟨S_, .i32⟩
  | 119 => ⟨S1x2048, .i32⟩
  | 120 => ⟨S1x2048, .i32⟩
  | 121 => ⟨S1x2048, .i32⟩
  | 122 => ⟨S2048x2048, .i32⟩
  | 123 => ⟨S2048x2048, .i32⟩
  | 124 => ⟨S2048x2048x1, .i32⟩
  | 125 => ⟨S2048x2048x1, .i32⟩
  | 126 => ⟨S2048x2048x2, .i32⟩
  | 127 => ⟨S2048x2048, .f32⟩
  | _ => ⟨S2048x2048, .f32⟩

abbrev hbmTy0_3 (i : Nat) : BufTy := match i % 128 with
  | 0 => ⟨S2048x2048, .f32⟩
  | 1 => ⟨S2048x2048, .f32⟩
  | 2 => ⟨S1023, .i32⟩
  | 3 => ⟨S_, .i32⟩
  | 4 => ⟨S1023, .i32⟩
  | 5 => ⟨S1023, .i32⟩
  | 6 => ⟨S1023, .i32⟩
  | 7 => ⟨S_, .i32⟩
  | 8 => ⟨S1023, .i32⟩
  | 9 => ⟨S1023, .i32⟩
  | 10 => ⟨S1023x1, .i32⟩
  | 11 => ⟨S3, .i32⟩
  | 12 => ⟨S1x3, .i32⟩
  | 13 => ⟨S1023x3, .i32⟩
  | 14 => ⟨S1023x3, .i32⟩
  | 15 => ⟨S1023x3, .i32⟩
  | 16 => ⟨S1023x1, .i32⟩
  | 17 => ⟨S3, .i32⟩
  | 18 => ⟨S1x3, .i32⟩
  | 19 => ⟨S1023x3, .i32⟩
  | 20 => ⟨S1023x3, .i32⟩
  | 21 => ⟨S1023x3, .i32⟩
  | 22 => ⟨S1023x1x3x1, .i32⟩
  | 23 => ⟨S1x1023x1x3, .i32⟩
  | 24 => ⟨S_, .i32⟩
  | 25 => ⟨S1023x1x3x1, .i32⟩
  | 26 => ⟨S1023x1x3x1, .i1⟩
  | 27 => ⟨S_, .i32⟩
  | 28 => ⟨S1023x1x3x1, .i32⟩
  | 29 => ⟨S1023x1x3x1, .i32⟩
  | 30 => ⟨S1023x1x3x1, .i32⟩
  | 31 => ⟨S_, .i32⟩
  | 32 => ⟨S1x1023x1x3, .i32⟩
  | 33 => ⟨S1x1023x1x3, .i1⟩
  | 34 => ⟨S_, .i32⟩
  | 35 => ⟨S1x1023x1x3, .i32⟩
  | 36 => ⟨S1x1023x1x3, .i32⟩
  | 37 => ⟨S1x1023x1x3, .i32⟩
  | 38 => ⟨S1023x1023x3x3, .i32⟩
  | 39 => ⟨S1023x1023x3x3, .i32⟩
  | 40 => ⟨S1023x1023x3x3x1, .i32⟩
  | 41 => ⟨S1023x1023x3x3x1, .i32⟩
  | 42 => ⟨S1023x1023x3x3x2, .i32⟩
  | 43 => ⟨S1023x1023x3x3, .f32⟩
  | 44 => ⟨S1023x1x3x1, .i32⟩
  | 45 => ⟨S1x1023x1x3, .i32⟩
  | 46 => ⟨S_, .i32⟩
  | 47 => ⟨S1023x1x3x1, .i32⟩
  | 48 => ⟨S1023x1x3x1, .i1⟩
  | 49 => ⟨S_, .i32⟩
  | 50 => ⟨S1023x1x3x1, .i32⟩
  | 51 => ⟨S1023x1x3x1, .i32⟩
  | 52 => ⟨S1023x1x3x1, .i32⟩
  | 53 => ⟨S_, .i32⟩
  | 54 => ⟨S1x1023x1x3, .i32⟩
  | 55 => ⟨S1x1023x1x3, .i1⟩
  | 56 => ⟨S_, .i32⟩
  | 57 => ⟨S1x1023x1x3, .i32⟩
  | 58 => ⟨S1x1023x1x3, .i32⟩
  | 59 => ⟨S1x1023x1x3, .i32⟩
  | 60 => ⟨S1023x1023x3x3, .i32⟩
  | 61 => ⟨S1023x1023x3x3, .i32⟩
  | 62 => ⟨S1023x1023x3x3x1, .i32⟩
  | 63 => ⟨S1023x1023x3x3x1, .i32⟩
  | 64 => ⟨S1023x1023x3x3x2, .i32⟩
  | 65 => ⟨S1023x1023x3x3, .f32⟩
  | 66 => ⟨S1023x1023x3x3, .f32⟩
  | 67 => ⟨S1023x1023x3x3, .f32⟩
  | 68 => ⟨S1023x1023x9, .f32⟩
  | 69 => ⟨S_, .f32⟩
  | 70 => ⟨S1023x1023, .f32⟩
  | 71 => ⟨S1023x1023x1, .f32⟩
  | 72 => ⟨S1023x1023x9, .f32⟩
  | 73 => ⟨S1023x1023x9, .i1⟩
  | 74 => ⟨S9, .i32⟩
  | 75 => ⟨S_, .i32⟩
  | 76 => ⟨S_, .i32⟩
  | 77 => ⟨S1023x1023x9, .i32⟩
  | 78 => ⟨S1023x1023x9, .i32⟩
  | 79 => ⟨S1023x1023x9, .i32⟩
  | 80 => ⟨S_, .i32⟩
  | 81 => ⟨S1023x1023, .i32⟩
  | 82 => ⟨S1023x1023x9, .f32⟩
  | 83 => ⟨S1023x1023x1, .i32⟩
  | 84 => ⟨S_, .i32⟩
  | 85 => ⟨S1023x1023x1, .i32⟩
  | 86 => ⟨S1023x1023x1, .i1⟩
  | 87 => ⟨S_, .i32⟩
  | 88 => ⟨S1023x1023x1, .i32⟩
  | 89 => ⟨S1023x1023x1, .i32⟩
  | 90 => ⟨S1023x1023x1, .i32⟩
  | 91 => ⟨S1023x1023x1x1, .i32⟩
  | 92 => ⟨S1, .i32⟩
  | 93 => ⟨S_, .i32⟩
  | 94 => ⟨S1023x1023x1x1, .i32⟩
  | 95 => ⟨S1023x1023x1x1, .i1⟩
  | 96 => ⟨S1x1x1x1, .i32⟩
  | 97 => ⟨S1023x1023x1x1, .i32⟩
  | 98 => ⟨S1023x1023x1x1, .i1⟩
  | 99 => ⟨S1023x1023x1x1, .i1⟩
  | 100 => ⟨S_, .i1⟩
  | 101 => ⟨S1023x1023x1, .i1⟩
  | 102 => ⟨S1023x1023x1, .f32⟩
  | 103 => ⟨S_, .f32⟩
  | 104 => ⟨S1023x1023x1, .f32⟩
  | 105 => ⟨S1023x1023x1, .f32⟩
  | 106 => ⟨S1023x1023, .f32⟩
  | 107 => ⟨S2048, .i32⟩
  | 108 => ⟨S2048, .i32⟩
  | 109 => ⟨S_, .i32⟩
  | 110 => ⟨S_, .i32⟩
  | 111 => ⟨S2048, .i32⟩
  | 112 => ⟨S2048, .i32⟩
  | 113 => ⟨S2048, .i32⟩
  | 114 => ⟨S_, .i32⟩
  | 115 => ⟨S2048, .i32⟩
  | 116 => ⟨S2048, .i1⟩
  | 117 => ⟨S2048, .i32⟩
  | 118 => ⟨S2048, .i32⟩
  | 119 => ⟨S_, .i32⟩
  | 120 => ⟨S2048, .i32⟩
  | 121 => ⟨S2048, .i1⟩
  | 122 => ⟨S2048, .i1⟩
  | 123 => ⟨S_, .i32⟩
  | 124 => ⟨S2048, .i32⟩
  | 125 => ⟨S2048, .i32⟩
  | 126 => ⟨S2048, .i32⟩
  | 127 => ⟨S_, .i32⟩
  | _ => ⟨S2048x2048, .f32⟩

abbrev hbmTy0_4 (i : Nat) : BufTy := match i % 128 with
  | 0 => ⟨S2048, .i32⟩
  | 1 => ⟨S2048, .i32⟩
  | 2 => ⟨S_, .i32⟩
  | 3 => ⟨S_, .i32⟩
  | 4 => ⟨S2048, .i32⟩
  | 5 => ⟨S2048, .i32⟩
  | 6 => ⟨S2048, .i32⟩
  | 7 => ⟨S_, .i32⟩
  | 8 => ⟨S2048, .i32⟩
  | 9 => ⟨S2048, .i1⟩
  | 10 => ⟨S2048, .i32⟩
  | 11 => ⟨S2048, .i32⟩
  | 12 => ⟨S_, .i32⟩
  | 13 => ⟨S2048, .i32⟩
  | 14 => ⟨S2048, .i1⟩
  | 15 => ⟨S2048, .i1⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .i32⟩
  | 27 => ⟨S_, .i32⟩
  | 28 => ⟨S2048, .i32⟩
  | 29 => ⟨S2048, .i1⟩
  | 30 => ⟨S_, .i32⟩
  | 31 => ⟨S2048, .i32⟩
  | 32 => ⟨S2048, .i32⟩
  | 33 => ⟨S2048, .i32⟩
  | 34 => ⟨S_, .i32⟩
  | 35 => ⟨S2048, .i32⟩
  | 36 => ⟨S2048, .i1⟩
  | 37 => ⟨S2048x1, .i1⟩
  | 38 => ⟨S1x2048, .i1⟩
  | 39 => ⟨S2048x2048, .i1⟩
  | 40 => ⟨S2048x2048, .i1⟩
  | 41 => ⟨S2048x2048, .i1⟩
  | 42 => ⟨S2048x1, .i32⟩
  | 43 => ⟨S1x2048, .i32⟩
  | 44 => ⟨S_, .i32⟩
  | 45 => ⟨S2048x1, .i32⟩
  | 46 => ⟨S2048x1, .i1⟩
  | 47 => ⟨S_, .i32⟩
  | 48 => ⟨S2048x1, .i32⟩
  | 49 => ⟨S2048x1, .i32⟩
  | 50 => ⟨S2048x1, .i32⟩
  | 51 => ⟨S_, .i32⟩
  | 52 => ⟨S1x2048, .i32⟩
  | 53 => ⟨S1x2048, .i1⟩
  | 54 => ⟨S_, .i32⟩
  | 55 => ⟨S1x2048, .i32⟩
  | 56 => ⟨S1x2048, .i32⟩
  | 57 => ⟨S1x2048, .i32⟩
  | 58 => ⟨S2048x2048, .i32⟩
  | 59 => ⟨S2048x2048, .i32⟩
  | 60 => ⟨S2048x2048x1, .i32⟩
  | 61 => ⟨S2048x2048x1, .i32⟩
  | 62 => ⟨S2048x2048x2, .i32⟩
  | 63 => ⟨S2048x2048, .f32⟩
  | 64 => ⟨S2048x2048, .f32⟩
  | 65 => ⟨S1023, .i32⟩
  | 66 => ⟨S_, .i32⟩
  | 67 => ⟨S1023, .i32⟩
  | 68 => ⟨S1023, .i32⟩
  | 69 => ⟨S1023, .i32⟩
  | 70 => ⟨S_, .i32⟩
  | 71 => ⟨S1023, .i32⟩
  | 72 => ⟨S1023, .i32⟩
  | 73 => ⟨S1023x1, .i32⟩
  | 74 => ⟨S3, .i32⟩
  | 75 => ⟨S1x3, .i32⟩
  | 76 => ⟨S1023x3, .i32⟩
  | 77 => ⟨S1023x3, .i32⟩
  | 78 => ⟨S1023x3, .i32⟩
  | 79 => ⟨S1023x1, .i32⟩
  | 80 => ⟨S3, .i32⟩
  | 81 => ⟨S1x3, .i32⟩
  | 82 => ⟨S1023x3, .i32⟩
  | 83 => ⟨S1023x3, .i32⟩
  | 84 => ⟨S1023x3, .i32⟩
  | 85 => ⟨S1023x1x3x1, .i32⟩
  | 86 => ⟨S1x1023x1x3, .i32⟩
  | 87 => ⟨S_, .i32⟩
  | 88 => ⟨S1023x1x3x1, .i32⟩
  | 89 => ⟨S1023x1x3x1, .i1⟩
  | 90 => ⟨S_, .i32⟩
  | 91 => ⟨S1023x1x3x1, .i32⟩
  | 92 => ⟨S1023x1x3x1, .i32⟩
  | 93 => ⟨S1023x1x3x1, .i32⟩
  | 94 => ⟨S_, .i32⟩
  | 95 => ⟨S1x1023x1x3, .i32⟩
  | 96 => ⟨S1x1023x1x3, .i1⟩
  | 97 => ⟨S_, .i32⟩
  | 98 => ⟨S1x1023x1x3, .i32⟩
  | 99 => ⟨S1x1023x1x3, .i32⟩
  | 100 => ⟨S1x1023x1x3, .i32⟩
  | 101 => ⟨S1023x1023x3x3, .i32⟩
  | 102 => ⟨S1023x1023x3x3, .i32⟩
  | 103 => ⟨S1023x1023x3x3x1, .i32⟩
  | 104 => ⟨S1023x1023x3x3x1, .i32⟩
  | 105 => ⟨S1023x1023x3x3x2, .i32⟩
  | 106 => ⟨S1023x1023x3x3, .f32⟩
  | 107 => ⟨S1023x1x3x1, .i32⟩
  | 108 => ⟨S1x1023x1x3, .i32⟩
  | 109 => ⟨S_, .i32⟩
  | 110 => ⟨S1023x1x3x1, .i32⟩
  | 111 => ⟨S1023x1x3x1, .i1⟩
  | 112 => ⟨S_, .i32⟩
  | 113 => ⟨S1023x1x3x1, .i32⟩
  | 114 => ⟨S1023x1x3x1, .i32⟩
  | 115 => ⟨S1023x1x3x1, .i32⟩
  | 116 => ⟨S_, .i32⟩
  | 117 => ⟨S1x1023x1x3, .i32⟩
  | 118 => ⟨S1x1023x1x3, .i1⟩
  | 119 => ⟨S_, .i32⟩
  | 120 => ⟨S1x1023x1x3, .i32⟩
  | 121 => ⟨S1x1023x1x3, .i32⟩
  | 122 => ⟨S1x1023x1x3, .i32⟩
  | 123 => ⟨S1023x1023x3x3, .i32⟩
  | 124 => ⟨S1023x1023x3x3, .i32⟩
  | 125 => ⟨S1023x1023x3x3x1, .i32⟩
  | 126 => ⟨S1023x1023x3x3x1, .i32⟩
  | 127 => ⟨S1023x1023x3x3x2, .i32⟩
  | _ => ⟨S2048x2048, .f32⟩

abbrev hbmTy0_5 (i : Nat) : BufTy := match i % 128 with
  | 0 => ⟨S1023x1023x3x3, .f32⟩
  | 1 => ⟨S1023x1023x3x3, .f32⟩
  | 2 => ⟨S1023x1023x3x3, .f32⟩
  | 3 => ⟨S1023x1023x9, .f32⟩
  | 4 => ⟨S_, .f32⟩
  | 5 => ⟨S1023x1023, .f32⟩
  | 6 => ⟨S1023x1023x1, .f32⟩
  | 7 => ⟨S1023x1023x9, .f32⟩
  | 8 => ⟨S1023x1023x9, .i1⟩
  | 9 => ⟨S9, .i32⟩
  | 10 => ⟨S_, .i32⟩
  | 11 => ⟨S_, .i32⟩
  | 12 => ⟨S1023x1023x9, .i32⟩
  | 13 => ⟨S1023x1023x9, .i32⟩
  | 14 => ⟨S1023x1023x9, .i32⟩
  | 15 => ⟨S_, .i32⟩
  | 16 => ⟨S1023x1023, .i32⟩
  | 17 => ⟨S1023x1023x9, .f32⟩
  | 18 => ⟨S1023x1023x1, .i32⟩
  | 19 => ⟨S_, .i32⟩
  | 20 => ⟨S1023x1023x1, .i32⟩
  | 21 => ⟨S1023x1023x1, .i1⟩
  | 22 => ⟨S_, .i32⟩
  | 23 => ⟨S1023x1023x1, .i32⟩
  | 24 => ⟨S1023x1023x1, .i32⟩
  | 25 => ⟨S1023x1023x1, .i32⟩
  | 26 => ⟨S1023x1023x1x1, .i32⟩
  | 27 => ⟨S1, .i32⟩
  | 28 => ⟨S_, .i32⟩
  | 29 => ⟨S1023x1023x1x1, .i32⟩
  | 30 => ⟨S1023x1023x1x1, .i1⟩
  | 31 => ⟨S1x1x1x1, .i32⟩
  | 32 => ⟨S1023x1023x1x1, .i32⟩
  | 33 => ⟨S1023x1023x1x1, .i1⟩
  | 34 => ⟨S1023x1023x1x1, .i1⟩
  | 35 => ⟨S_, .i1⟩
  | 36 => ⟨S1023x1023x1, .i1⟩
  | 37 => ⟨S1023x1023x1, .f32⟩
  | 38 => ⟨S_, .f32⟩
  | 39 => ⟨S1023x1023x1, .f32⟩
  | 40 => ⟨S1023x1023x1, .f32⟩
  | 41 => ⟨S1023x1023, .f32⟩
  | 42 => ⟨S2048, .i32⟩
  | 43 => ⟨S2048, .i32⟩
  | 44 => ⟨S_, .i32⟩
  | 45 => ⟨S_, .i32⟩
  | 46 => ⟨S2048, .i32⟩
  | 47 => ⟨S2048, .i32⟩
  | 48 => ⟨S2048, .i32⟩
  | 49 => ⟨S_, .i32⟩
  | 50 => ⟨S2048, .i32⟩
  | 51 => ⟨S2048, .i1⟩
  | 52 => ⟨S2048, .i32⟩
  | 53 => ⟨S2048, .i32⟩
  | 54 => ⟨S_, .i32⟩
  | 55 => ⟨S2048, .i32⟩
  | 56 => ⟨S2048, .i1⟩
  | 57 => ⟨S2048, .i1⟩
  | 58 => ⟨S_, .i32⟩
  | 59 => ⟨S2048, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S_, .i32⟩
  | 67 => ⟨S2048, .i32⟩
  | 68 => ⟨S2048, .i32⟩
  | 69 => ⟨S2048, .i32⟩
  | 70 => ⟨S_, .i32⟩
  | 71 => ⟨S2048, .i32⟩
  | 72 => ⟨S2048, .i1⟩
  | 73 => ⟨S2048, .i32⟩
  | 74 => ⟨S2048, .i32⟩
  | 75 => ⟨S_, .i32⟩
  | 76 => ⟨S2048, .i32⟩
  | 77 => ⟨S2048, .i1⟩
  | 78 => ⟨S2048, .i1⟩
  | 79 => ⟨S_, .i32⟩
  | 80 => ⟨S2048, .i32⟩
  | 81 => ⟨S2048, .i32⟩
  | 82 => ⟨S2048, .i32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S_, .i32⟩
  | 98 => ⟨S2048, .i32⟩
  | 99 => ⟨S2048, .i1⟩
  | 100 => ⟨S2048x1, .i1⟩
  | 101 => ⟨S1x2048, .i1⟩
  | 102 => ⟨S2048x2048, .i1⟩
  | 103 => ⟨S2048x2048, .i1⟩
  | 104 => ⟨S2048x2048, .i1⟩
  | 105 => ⟨S2048x1, .i32⟩
  | 106 => ⟨S1x2048, .i32⟩
  | 107 => ⟨S_, .i32⟩
  | 108 => ⟨S2048x1, .i32⟩
  | 109 => ⟨S2048x1, .i1⟩
  | 110 => ⟨S_, .i32⟩
  | 111 => ⟨S2048x1, .i32⟩
  | 112 => ⟨S2048x1, .i32⟩
  | 113 => ⟨S2048x1, .i32⟩
  | 114 => ⟨S_, .i32⟩
  | 115 => ⟨S1x2048, .i32⟩
  | 116 => ⟨S1x2048, .i1⟩
  | 117 => ⟨S_, .i32⟩
  | 118 => ⟨S1x2048, .i32⟩
  | 119 => ⟨S1x2048, .i32⟩
  | 120 => ⟨S1x2048, .i32⟩
  | 121 => ⟨S2048x2048, .i32⟩
  | 122 => ⟨S2048x2048, .i32⟩
  | 123 => ⟨S2048x2048x1, .i32⟩
  | 124 => ⟨S2048x2048x1, .i32⟩
  | 125 => ⟨S2048x2048x2, .i32⟩
  | 126 => ⟨S2048x2048, .f32⟩
  | 127 => ⟨S2048x2048, .f32⟩
  | _ => ⟨S2048x2048, .f32⟩

abbrev hbmTy0_6 (i : Nat) : BufTy := match i % 128 with
  | 0 => ⟨S2048x2048, .f32⟩
  | _ => ⟨S2048x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_5 : Ref sig .tc := ⟨.hbm, 47, rfl⟩
abbrev main_v38 : Ref sig .tc := ⟨.hbm, 48, rfl⟩
abbrev main_v39 : Ref sig .tc := ⟨.hbm, 49, rfl⟩
abbrev main_c_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_7 : Ref sig .tc := ⟨.hbm, 54, rfl⟩
abbrev main_v43 : Ref sig .tc := ⟨.hbm, 55, rfl⟩
abbrev main_v44 : Ref sig .tc := ⟨.hbm, 56, rfl⟩
abbrev main_c_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_9 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v62 : Ref sig .tc := ⟨.hbm, 80, rfl⟩
abbrev main_c_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call1_c : Ref sig .tc := ⟨.hbm, 85, rfl⟩
abbrev main_call1_v0 : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_c_1 : Ref sig .tc := ⟨.hbm, 93, rfl⟩
abbrev main_call1_c_2 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_3 : Ref sig .tc := ⟨.hbm, 101, rfl⟩
abbrev main_call1_v12 : Ref sig .tc := ⟨.hbm, 102, rfl⟩
abbrev main_call1_v13 : Ref sig .tc := ⟨.hbm, 103, rfl⟩
abbrev main_call1_cst : Ref sig .tc := ⟨.hbm, 104, rfl⟩
abbrev main_call1_v14 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_11 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_c : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_0 : Ref sig .tc := ⟨.hbm, 124, rfl⟩
abbrev main_call2_v12 : Ref sig .tc := ⟨.hbm, 125, rfl⟩
abbrev main_call2_v13 : Ref sig .tc := ⟨.hbm, 126, rfl⟩
abbrev main_v70 : Ref sig .tc := ⟨.hbm, 127, rfl⟩
abbrev main_c_12 : Ref sig .tc := ⟨.hbm, 128, rfl⟩
abbrev main_v71 : Ref sig .tc := ⟨.hbm, 129, rfl⟩
abbrev main_v72 : Ref sig .tc := ⟨.hbm, 130, rfl⟩
abbrev main_c_13 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_c : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_c_0 : Ref sig .tc := ⟨.hbm, 145, rfl⟩
abbrev main_call3_v12 : Ref sig .tc := ⟨.hbm, 146, rfl⟩
abbrev main_call3_v13 : Ref sig .tc := ⟨.hbm, 147, rfl⟩
abbrev main_v73 : Ref sig .tc := ⟨.hbm, 148, rfl⟩
abbrev main_c_14 : Ref sig .tc := ⟨.hbm, 149, rfl⟩
abbrev main_v74 : Ref sig .tc := ⟨.hbm, 150, rfl⟩
abbrev main_v75 : Ref sig .tc := ⟨.hbm, 151, rfl⟩
abbrev main_c_15 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_c_16 : Ref sig .tc := ⟨.hbm, 156, rfl⟩
abbrev main_v79 : Ref sig .tc := ⟨.hbm, 157, rfl⟩
abbrev main_v80 : Ref sig .tc := ⟨.hbm, 158, rfl⟩
abbrev main_c_17 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_c_18 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_c_19 : Ref sig .tc := ⟨.hbm, 173, rfl⟩
abbrev main_v93 : Ref sig .tc := ⟨.hbm, 174, rfl⟩
abbrev main_v94 : Ref sig .tc := ⟨.hbm, 175, rfl⟩
abbrev main_c_20 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_c_21 : Ref sig .tc := ⟨.hbm, 180, rfl⟩
abbrev main_v98 : Ref sig .tc := ⟨.hbm, 181, rfl⟩
abbrev main_v99 : Ref sig .tc := ⟨.hbm, 182, rfl⟩
abbrev main_c_22 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_c_23 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_c_24 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_c_25 : Ref sig .tc := ⟨.hbm, 216, rfl⟩
abbrev main_v130 : Ref sig .tc := ⟨.hbm, 217, rfl⟩
abbrev main_v131 : Ref sig .tc := ⟨.hbm, 218, rfl⟩
abbrev main_c_26 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_c_27 : Ref sig .tc := ⟨.hbm, 223, rfl⟩
abbrev main_v135 : Ref sig .tc := ⟨.hbm, 224, rfl⟩
abbrev main_v136 : Ref sig .tc := ⟨.hbm, 225, rfl⟩
abbrev main_c_28 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_c_29 : Ref sig .tc := ⟨.hbm, 238, rfl⟩
abbrev main_v148 : Ref sig .tc := ⟨.hbm, 239, rfl⟩
abbrev main_v149 : Ref sig .tc := ⟨.hbm, 240, rfl⟩
abbrev main_c_30 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_c_31 : Ref sig .tc := ⟨.hbm, 245, rfl⟩
abbrev main_v153 : Ref sig .tc := ⟨.hbm, 246, rfl⟩
abbrev main_v154 : Ref sig .tc := ⟨.hbm, 247, rfl⟩
abbrev main_c_32 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_cst_33 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_c_34 : Ref sig .tc := ⟨.hbm, 267, rfl⟩
abbrev main_call5_v0 : Ref sig .tc := ⟨.hbm, 268, rfl⟩
abbrev main_call5_v1 : Ref sig .tc := ⟨.hbm, 269, rfl⟩
abbrev main_call5_v2 : Ref sig .tc := ⟨.hbm, 270, rfl⟩
abbrev main_v172 : Ref sig .tc := ⟨.hbm, 271, rfl⟩
abbrev main_c_35 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_call6_c : Ref sig .tc := ⟨.hbm, 276, rfl⟩
abbrev main_call6_v0 : Ref sig .tc := ⟨.hbm, 277, rfl⟩
abbrev main_call6_v1 : Ref sig .tc := ⟨.hbm, 278, rfl⟩
abbrev main_call6_c_0 : Ref sig .tc := ⟨.hbm, 279, rfl⟩
abbrev main_call6_v2 : Ref sig .tc := ⟨.hbm, 280, rfl⟩
abbrev main_call6_v3 : Ref sig .tc := ⟨.hbm, 281, rfl⟩
abbrev main_call6_v4 : Ref sig .tc := ⟨.hbm, 282, rfl⟩
abbrev main_call6_v5 : Ref sig .tc := ⟨.hbm, 283, rfl⟩
abbrev main_call6_c_1 : Ref sig .tc := ⟨.hbm, 284, rfl⟩
abbrev main_call6_c_2 : Ref sig .tc := ⟨.hbm, 285, rfl⟩
abbrev main_call6_v6 : Ref sig .tc := ⟨.hbm, 286, rfl⟩
abbrev main_call6_v7 : Ref sig .tc := ⟨.hbm, 287, rfl⟩
abbrev main_call6_v8 : Ref sig .tc := ⟨.hbm, 288, rfl⟩
abbrev main_call6_v9 : Ref sig .tc := ⟨.hbm, 289, rfl⟩
abbrev main_call6_v10 : Ref sig .tc := ⟨.hbm, 290, rfl⟩
abbrev main_call6_v11 : Ref sig .tc := ⟨.hbm, 291, rfl⟩
abbrev main_call6_c_3 : Ref sig .tc := ⟨.hbm, 292, rfl⟩
abbrev main_call6_v12 : Ref sig .tc := ⟨.hbm, 293, rfl⟩
abbrev main_call6_v13 : Ref sig .tc := ⟨.hbm, 294, rfl⟩
abbrev main_call6_cst : Ref sig .tc := ⟨.hbm, 295, rfl⟩
abbrev main_call6_v14 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_c_36 : Ref sig .tc := ⟨.hbm, 301, rfl⟩
abbrev main_call7_v0 : Ref sig .tc := ⟨.hbm, 302, rfl⟩
abbrev main_call7_v1 : Ref sig .tc := ⟨.hbm, 303, rfl⟩
abbrev main_call7_v2 : Ref sig .tc := ⟨.hbm, 304, rfl⟩
abbrev main_call7_v3 : Ref sig .tc := ⟨.hbm, 305, rfl⟩
abbrev main_call7_v4 : Ref sig .tc := ⟨.hbm, 306, rfl⟩
abbrev main_call7_v5 : Ref sig .tc := ⟨.hbm, 307, rfl⟩
abbrev main_call7_v6 : Ref sig .tc := ⟨.hbm, 308, rfl⟩
abbrev main_call7_v7 : Ref sig .tc := ⟨.hbm, 309, rfl⟩
abbrev main_call7_v8 : Ref sig .tc := ⟨.hbm, 310, rfl⟩
abbrev main_call7_c : Ref sig .tc := ⟨.hbm, 311, rfl⟩
abbrev main_call7_v9 : Ref sig .tc := ⟨.hbm, 312, rfl⟩
abbrev main_call7_v10 : Ref sig .tc := ⟨.hbm, 313, rfl⟩
abbrev main_call7_v11 : Ref sig .tc := ⟨.hbm, 314, rfl⟩
abbrev main_call7_c_0 : Ref sig .tc := ⟨.hbm, 315, rfl⟩
abbrev main_call7_v12 : Ref sig .tc := ⟨.hbm, 316, rfl⟩
abbrev main_call7_v13 : Ref sig .tc := ⟨.hbm, 317, rfl⟩
abbrev main_v180 : Ref sig .tc := ⟨.hbm, 318, rfl⟩
abbrev main_c_37 : Ref sig .tc := ⟨.hbm, 319, rfl⟩
abbrev main_v181 : Ref sig .tc := ⟨.hbm, 320, rfl⟩
abbrev main_v182 : Ref sig .tc := ⟨.hbm, 321, rfl⟩
abbrev main_c_38 : Ref sig .tc := ⟨.hbm, 322, rfl⟩
abbrev main_call8_v0 : Ref sig .tc := ⟨.hbm, 323, rfl⟩
abbrev main_call8_v1 : Ref sig .tc := ⟨.hbm, 324, rfl⟩
abbrev main_call8_v2 : Ref sig .tc := ⟨.hbm, 325, rfl⟩
abbrev main_call8_v3 : Ref sig .tc := ⟨.hbm, 326, rfl⟩
abbrev main_call8_v4 : Ref sig .tc := ⟨.hbm, 327, rfl⟩
abbrev main_call8_v5 : Ref sig .tc := ⟨.hbm, 328, rfl⟩
abbrev main_call8_v6 : Ref sig .tc := ⟨.hbm, 329, rfl⟩
abbrev main_call8_v7 : Ref sig .tc := ⟨.hbm, 330, rfl⟩
abbrev main_call8_v8 : Ref sig .tc := ⟨.hbm, 331, rfl⟩
abbrev main_call8_c : Ref sig .tc := ⟨.hbm, 332, rfl⟩
abbrev main_call8_v9 : Ref sig .tc := ⟨.hbm, 333, rfl⟩
abbrev main_call8_v10 : Ref sig .tc := ⟨.hbm, 334, rfl⟩
abbrev main_call8_v11 : Ref sig .tc := ⟨.hbm, 335, rfl⟩
abbrev main_call8_c_0 : Ref sig .tc := ⟨.hbm, 336, rfl⟩
abbrev main_call8_v12 : Ref sig .tc := ⟨.hbm, 337, rfl⟩
abbrev main_call8_v13 : Ref sig .tc := ⟨.hbm, 338, rfl⟩
abbrev main_v183 : Ref sig .tc := ⟨.hbm, 339, rfl⟩
abbrev main_c_39 : Ref sig .tc := ⟨.hbm, 340, rfl⟩
abbrev main_v184 : Ref sig .tc := ⟨.hbm, 341, rfl⟩
abbrev main_v185 : Ref sig .tc := ⟨.hbm, 342, rfl⟩
abbrev main_c_40 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_c_41 : Ref sig .tc := ⟨.hbm, 347, rfl⟩
abbrev main_v189 : Ref sig .tc := ⟨.hbm, 348, rfl⟩
abbrev main_v190 : Ref sig .tc := ⟨.hbm, 349, rfl⟩
abbrev main_c_42 : Ref sig .tc := ⟨.hbm, 350, rfl⟩
abbrev main_v191 : Ref sig .tc := ⟨.hbm, 351, rfl⟩
abbrev main_v192 : Ref sig .tc := ⟨.hbm, 352, rfl⟩
abbrev main_v193 : Ref sig .tc := ⟨.hbm, 353, rfl⟩
abbrev main_c_43 : Ref sig .tc := ⟨.hbm, 354, rfl⟩
abbrev main_v194 : Ref sig .tc := ⟨.hbm, 355, rfl⟩
abbrev main_v195 : Ref sig .tc := ⟨.hbm, 356, rfl⟩
abbrev main_v196 : Ref sig .tc := ⟨.hbm, 357, rfl⟩
abbrev main_v197 : Ref sig .tc := ⟨.hbm, 358, rfl⟩
abbrev main_v198 : Ref sig .tc := ⟨.hbm, 359, rfl⟩
abbrev main_v199 : Ref sig .tc := ⟨.hbm, 360, rfl⟩
abbrev main_v200 : Ref sig .tc := ⟨.hbm, 361, rfl⟩
abbrev main_v201 : Ref sig .tc := ⟨.hbm, 362, rfl⟩
abbrev main_v202 : Ref sig .tc := ⟨.hbm, 363, rfl⟩
abbrev main_c_44 : Ref sig .tc := ⟨.hbm, 364, rfl⟩
abbrev main_v203 : Ref sig .tc := ⟨.hbm, 365, rfl⟩
abbrev main_v204 : Ref sig .tc := ⟨.hbm, 366, rfl⟩
abbrev main_c_45 : Ref sig .tc := ⟨.hbm, 367, rfl⟩
abbrev main_v205 : Ref sig .tc := ⟨.hbm, 368, rfl⟩
abbrev main_v206 : Ref sig .tc := ⟨.hbm, 369, rfl⟩
abbrev main_v207 : Ref sig .tc := ⟨.hbm, 370, rfl⟩
abbrev main_c_46 : Ref sig .tc := ⟨.hbm, 371, rfl⟩
abbrev main_v208 : Ref sig .tc := ⟨.hbm, 372, rfl⟩
abbrev main_v209 : Ref sig .tc := ⟨.hbm, 373, rfl⟩
abbrev main_c_47 : Ref sig .tc := ⟨.hbm, 374, rfl⟩
abbrev main_v210 : Ref sig .tc := ⟨.hbm, 375, rfl⟩
abbrev main_v211 : Ref sig .tc := ⟨.hbm, 376, rfl⟩
abbrev main_v212 : Ref sig .tc := ⟨.hbm, 377, rfl⟩
abbrev main_v213 : Ref sig .tc := ⟨.hbm, 378, rfl⟩
abbrev main_v214 : Ref sig .tc := ⟨.hbm, 379, rfl⟩
abbrev main_v215 : Ref sig .tc := ⟨.hbm, 380, rfl⟩
abbrev main_v216 : Ref sig .tc := ⟨.hbm, 381, rfl⟩
abbrev main_v217 : Ref sig .tc := ⟨.hbm, 382, rfl⟩
abbrev main_v218 : Ref sig .tc := ⟨.hbm, 383, rfl⟩
abbrev main_v219 : Ref sig .tc := ⟨.hbm, 384, rfl⟩
abbrev main_v220 : Ref sig .tc := ⟨.hbm, 385, rfl⟩
abbrev main_v221 : Ref sig .tc := ⟨.hbm, 386, rfl⟩
abbrev main_c_48 : Ref sig .tc := ⟨.hbm, 387, rfl⟩
abbrev main_v222 : Ref sig .tc := ⟨.hbm, 388, rfl⟩
abbrev main_v223 : Ref sig .tc := ⟨.hbm, 389, rfl⟩
abbrev main_v224 : Ref sig .tc := ⟨.hbm, 390, rfl⟩
abbrev main_c_49 : Ref sig .tc := ⟨.hbm, 391, rfl⟩
abbrev main_v225 : Ref sig .tc := ⟨.hbm, 392, rfl⟩
abbrev main_v226 : Ref sig .tc := ⟨.hbm, 393, rfl⟩
abbrev main_v227 : Ref sig .tc := ⟨.hbm, 394, rfl⟩
abbrev main_v228 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_v236 : Ref sig .tc := ⟨.hbm, 403, rfl⟩
abbrev main_v237 : Ref sig .tc := ⟨.hbm, 404, rfl⟩
abbrev main_v238 : Ref sig .tc := ⟨.hbm, 405, rfl⟩
abbrev main_v239 : Ref sig .tc := ⟨.hbm, 406, rfl⟩
abbrev main_v240 : Ref sig .tc := ⟨.hbm, 407, rfl⟩
abbrev main_c_50 : Ref sig .tc := ⟨.hbm, 408, rfl⟩
abbrev main_v241 : Ref sig .tc := ⟨.hbm, 409, rfl⟩
abbrev main_v242 : Ref sig .tc := ⟨.hbm, 410, rfl⟩
abbrev main_c_51 : Ref sig .tc := ⟨.hbm, 411, rfl⟩
abbrev main_v243 : Ref sig .tc := ⟨.hbm, 412, rfl⟩
abbrev main_v244 : Ref sig .tc := ⟨.hbm, 413, rfl⟩
abbrev main_v245 : Ref sig .tc := ⟨.hbm, 414, rfl⟩
abbrev main_c_52 : Ref sig .tc := ⟨.hbm, 415, rfl⟩
abbrev main_v246 : Ref sig .tc := ⟨.hbm, 416, rfl⟩
abbrev main_v247 : Ref sig .tc := ⟨.hbm, 417, rfl⟩
abbrev main_c_53 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩
abbrev main_v251 : Ref sig .tc := ⟨.hbm, 422, rfl⟩
abbrev main_v252 : Ref sig .tc := ⟨.hbm, 423, rfl⟩
abbrev main_v253 : Ref sig .tc := ⟨.hbm, 424, rfl⟩
abbrev main_v254 : Ref sig .tc := ⟨.hbm, 425, rfl⟩
abbrev main_v255 : Ref sig .tc := ⟨.hbm, 426, rfl⟩
abbrev main_v256 : Ref sig .tc := ⟨.hbm, 427, rfl⟩
abbrev main_v257 : Ref sig .tc := ⟨.hbm, 428, rfl⟩
abbrev main_v258 : Ref sig .tc := ⟨.hbm, 429, rfl⟩
abbrev main_c_54 : Ref sig .tc := ⟨.hbm, 430, rfl⟩
abbrev main_v259 : Ref sig .tc := ⟨.hbm, 431, rfl⟩
abbrev main_v260 : Ref sig .tc := ⟨.hbm, 432, rfl⟩
abbrev main_c_55 : Ref sig .tc := ⟨.hbm, 433, rfl⟩
abbrev main_v261 : Ref sig .tc := ⟨.hbm, 434, rfl⟩
abbrev main_v262 : Ref sig .tc := ⟨.hbm, 435, rfl⟩
abbrev main_v263 : Ref sig .tc := ⟨.hbm, 436, rfl⟩
abbrev main_c_56 : Ref sig .tc := ⟨.hbm, 437, rfl⟩
abbrev main_v264 : Ref sig .tc := ⟨.hbm, 438, rfl⟩
abbrev main_v265 : Ref sig .tc := ⟨.hbm, 439, rfl⟩
abbrev main_c_57 : Ref sig .tc := ⟨.hbm, 440, rfl⟩
abbrev main_v266 : Ref sig .tc := ⟨.hbm, 441, rfl⟩
abbrev main_v267 : Ref sig .tc := ⟨.hbm, 442, rfl⟩
abbrev main_v268 : Ref sig .tc := ⟨.hbm, 443, rfl⟩
abbrev main_v269 : Ref sig .tc := ⟨.hbm, 444, rfl⟩
abbrev main_v270 : Ref sig .tc := ⟨.hbm, 445, rfl⟩
abbrev main_v271 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_v275 : Ref sig .tc := ⟨.hbm, 450, rfl⟩
abbrev main_v276 : Ref sig .tc := ⟨.hbm, 451, rfl⟩
abbrev main_v277 : Ref sig .tc := ⟨.hbm, 452, rfl⟩
abbrev main_cst_58 : Ref sig .tc := ⟨.hbm, 453, rfl⟩
abbrev main_v278 : Ref sig .tc := ⟨.hbm, 454, rfl⟩
abbrev main_v279 : Ref sig .tc := ⟨.hbm, 455, rfl⟩
abbrev main_v280 : Ref sig .tc := ⟨.hbm, 456, rfl⟩
abbrev main_v281 : Ref sig .tc := ⟨.hbm, 457, rfl⟩
abbrev main_v282 : Ref sig .tc := ⟨.hbm, 458, rfl⟩
abbrev main_c_59 : Ref sig .tc := ⟨.hbm, 459, rfl⟩
abbrev main_call10_v0 : Ref sig .tc := ⟨.hbm, 460, rfl⟩
abbrev main_call10_v1 : Ref sig .tc := ⟨.hbm, 461, rfl⟩
abbrev main_call10_v2 : Ref sig .tc := ⟨.hbm, 462, rfl⟩
abbrev main_v283 : Ref sig .tc := ⟨.hbm, 463, rfl⟩
abbrev main_c_60 : Ref sig .tc := ⟨.hbm, 464, rfl⟩
abbrev main_v284 : Ref sig .tc := ⟨.hbm, 465, rfl⟩
abbrev main_v285 : Ref sig .tc := ⟨.hbm, 466, rfl⟩
abbrev main_v286 : Ref sig .tc := ⟨.hbm, 467, rfl⟩
abbrev main_call11_c : Ref sig .tc := ⟨.hbm, 468, rfl⟩
abbrev main_call11_v0 : Ref sig .tc := ⟨.hbm, 469, rfl⟩
abbrev main_call11_v1 : Ref sig .tc := ⟨.hbm, 470, rfl⟩
abbrev main_call11_c_0 : Ref sig .tc := ⟨.hbm, 471, rfl⟩
abbrev main_call11_v2 : Ref sig .tc := ⟨.hbm, 472, rfl⟩
abbrev main_call11_v3 : Ref sig .tc := ⟨.hbm, 473, rfl⟩
abbrev main_call11_v4 : Ref sig .tc := ⟨.hbm, 474, rfl⟩
abbrev main_call11_v5 : Ref sig .tc := ⟨.hbm, 475, rfl⟩
abbrev main_call11_c_1 : Ref sig .tc := ⟨.hbm, 476, rfl⟩
abbrev main_call11_c_2 : Ref sig .tc := ⟨.hbm, 477, rfl⟩
abbrev main_call11_v6 : Ref sig .tc := ⟨.hbm, 478, rfl⟩
abbrev main_call11_v7 : Ref sig .tc := ⟨.hbm, 479, rfl⟩
abbrev main_call11_v8 : Ref sig .tc := ⟨.hbm, 480, rfl⟩
abbrev main_call11_v9 : Ref sig .tc := ⟨.hbm, 481, rfl⟩
abbrev main_call11_v10 : Ref sig .tc := ⟨.hbm, 482, rfl⟩
abbrev main_call11_v11 : Ref sig .tc := ⟨.hbm, 483, rfl⟩
abbrev main_call11_c_3 : Ref sig .tc := ⟨.hbm, 484, rfl⟩
abbrev main_call11_v12 : Ref sig .tc := ⟨.hbm, 485, rfl⟩
abbrev main_call11_v13 : Ref sig .tc := ⟨.hbm, 486, rfl⟩
abbrev main_call11_cst : Ref sig .tc := ⟨.hbm, 487, rfl⟩
abbrev main_call11_v14 : Ref sig .tc := ⟨.hbm, 488, rfl⟩
abbrev main_v287 : Ref sig .tc := ⟨.hbm, 489, rfl⟩
abbrev main_v288 : Ref sig .tc := ⟨.hbm, 490, rfl⟩
abbrev main_v289 : Ref sig .tc := ⟨.hbm, 491, rfl⟩
abbrev main_v290 : Ref sig .tc := ⟨.hbm, 492, rfl⟩
abbrev main_c_61 : Ref sig .tc := ⟨.hbm, 493, rfl⟩
abbrev main_call12_v0 : Ref sig .tc := ⟨.hbm, 494, rfl⟩
abbrev main_call12_v1 : Ref sig .tc := ⟨.hbm, 495, rfl⟩
abbrev main_call12_v2 : Ref sig .tc := ⟨.hbm, 496, rfl⟩
abbrev main_call12_v3 : Ref sig .tc := ⟨.hbm, 497, rfl⟩
abbrev main_call12_v4 : Ref sig .tc := ⟨.hbm, 498, rfl⟩
abbrev main_call12_v5 : Ref sig .tc := ⟨.hbm, 499, rfl⟩
abbrev main_call12_v6 : Ref sig .tc := ⟨.hbm, 500, rfl⟩
abbrev main_call12_v7 : Ref sig .tc := ⟨.hbm, 501, rfl⟩
abbrev main_call12_v8 : Ref sig .tc := ⟨.hbm, 502, rfl⟩
abbrev main_call12_c : Ref sig .tc := ⟨.hbm, 503, rfl⟩
abbrev main_call12_v9 : Ref sig .tc := ⟨.hbm, 504, rfl⟩
abbrev main_call12_v10 : Ref sig .tc := ⟨.hbm, 505, rfl⟩
abbrev main_call12_v11 : Ref sig .tc := ⟨.hbm, 506, rfl⟩
abbrev main_call12_c_0 : Ref sig .tc := ⟨.hbm, 507, rfl⟩
abbrev main_call12_v12 : Ref sig .tc := ⟨.hbm, 508, rfl⟩
abbrev main_call12_v13 : Ref sig .tc := ⟨.hbm, 509, rfl⟩
abbrev main_v291 : Ref sig .tc := ⟨.hbm, 510, rfl⟩
abbrev main_c_62 : Ref sig .tc := ⟨.hbm, 511, rfl⟩
abbrev main_v292 : Ref sig .tc := ⟨.hbm, 512, rfl⟩
abbrev main_v293 : Ref sig .tc := ⟨.hbm, 513, rfl⟩
abbrev main_c_63 : Ref sig .tc := ⟨.hbm, 514, rfl⟩
abbrev main_call13_v0 : Ref sig .tc := ⟨.hbm, 515, rfl⟩
abbrev main_call13_v1 : Ref sig .tc := ⟨.hbm, 516, rfl⟩
abbrev main_call13_v2 : Ref sig .tc := ⟨.hbm, 517, rfl⟩
abbrev main_call13_v3 : Ref sig .tc := ⟨.hbm, 518, rfl⟩
abbrev main_call13_v4 : Ref sig .tc := ⟨.hbm, 519, rfl⟩
abbrev main_call13_v5 : Ref sig .tc := ⟨.hbm, 520, rfl⟩
abbrev main_call13_v6 : Ref sig .tc := ⟨.hbm, 521, rfl⟩
abbrev main_call13_v7 : Ref sig .tc := ⟨.hbm, 522, rfl⟩
abbrev main_call13_v8 : Ref sig .tc := ⟨.hbm, 523, rfl⟩
abbrev main_call13_c : Ref sig .tc := ⟨.hbm, 524, rfl⟩
abbrev main_call13_v9 : Ref sig .tc := ⟨.hbm, 525, rfl⟩
abbrev main_call13_v10 : Ref sig .tc := ⟨.hbm, 526, rfl⟩
abbrev main_call13_v11 : Ref sig .tc := ⟨.hbm, 527, rfl⟩
abbrev main_call13_c_0 : Ref sig .tc := ⟨.hbm, 528, rfl⟩
abbrev main_call13_v12 : Ref sig .tc := ⟨.hbm, 529, rfl⟩
abbrev main_call13_v13 : Ref sig .tc := ⟨.hbm, 530, rfl⟩
abbrev main_v294 : Ref sig .tc := ⟨.hbm, 531, rfl⟩
abbrev main_c_64 : Ref sig .tc := ⟨.hbm, 532, rfl⟩
abbrev main_v295 : Ref sig .tc := ⟨.hbm, 533, rfl⟩
abbrev main_v296 : Ref sig .tc := ⟨.hbm, 534, rfl⟩
abbrev main_c_65 : Ref sig .tc := ⟨.hbm, 535, rfl⟩
abbrev main_v297 : Ref sig .tc := ⟨.hbm, 536, rfl⟩
abbrev main_v298 : Ref sig .tc := ⟨.hbm, 537, rfl⟩
abbrev main_v299 : Ref sig .tc := ⟨.hbm, 538, rfl⟩
abbrev main_c_66 : Ref sig .tc := ⟨.hbm, 539, rfl⟩
abbrev main_v300 : Ref sig .tc := ⟨.hbm, 540, rfl⟩
abbrev main_v301 : Ref sig .tc := ⟨.hbm, 541, rfl⟩
abbrev main_c_67 : Ref sig .tc := ⟨.hbm, 542, rfl⟩
abbrev main_v302 : Ref sig .tc := ⟨.hbm, 543, rfl⟩
abbrev main_v303 : Ref sig .tc := ⟨.hbm, 544, rfl⟩
abbrev main_v304 : Ref sig .tc := ⟨.hbm, 545, rfl⟩
abbrev main_c_68 : Ref sig .tc := ⟨.hbm, 546, rfl⟩
abbrev main_v305 : Ref sig .tc := ⟨.hbm, 547, rfl⟩
abbrev main_v306 : Ref sig .tc := ⟨.hbm, 548, rfl⟩
abbrev main_v307 : Ref sig .tc := ⟨.hbm, 549, rfl⟩
abbrev main_v308 : Ref sig .tc := ⟨.hbm, 550, rfl⟩
abbrev main_v309 : Ref sig .tc := ⟨.hbm, 551, rfl⟩
abbrev main_v310 : Ref sig .tc := ⟨.hbm, 552, rfl⟩
abbrev main_v311 : Ref sig .tc := ⟨.hbm, 553, rfl⟩
abbrev main_v312 : Ref sig .tc := ⟨.hbm, 554, rfl⟩
abbrev main_v313 : Ref sig .tc := ⟨.hbm, 555, rfl⟩
abbrev main_c_69 : Ref sig .tc := ⟨.hbm, 556, rfl⟩
abbrev main_v314 : Ref sig .tc := ⟨.hbm, 557, rfl⟩
abbrev main_v315 : Ref sig .tc := ⟨.hbm, 558, rfl⟩
abbrev main_c_70 : Ref sig .tc := ⟨.hbm, 559, rfl⟩
abbrev main_v316 : Ref sig .tc := ⟨.hbm, 560, rfl⟩
abbrev main_v317 : Ref sig .tc := ⟨.hbm, 561, rfl⟩
abbrev main_v318 : Ref sig .tc := ⟨.hbm, 562, rfl⟩
abbrev main_c_71 : Ref sig .tc := ⟨.hbm, 563, rfl⟩
abbrev main_v319 : Ref sig .tc := ⟨.hbm, 564, rfl⟩
abbrev main_v320 : Ref sig .tc := ⟨.hbm, 565, rfl⟩
abbrev main_c_72 : Ref sig .tc := ⟨.hbm, 566, rfl⟩
abbrev main_v321 : Ref sig .tc := ⟨.hbm, 567, rfl⟩
abbrev main_v322 : Ref sig .tc := ⟨.hbm, 568, rfl⟩
abbrev main_v323 : Ref sig .tc := ⟨.hbm, 569, rfl⟩
abbrev main_v324 : Ref sig .tc := ⟨.hbm, 570, rfl⟩
abbrev main_v325 : Ref sig .tc := ⟨.hbm, 571, rfl⟩
abbrev main_v326 : Ref sig .tc := ⟨.hbm, 572, rfl⟩
abbrev main_v327 : Ref sig .tc := ⟨.hbm, 573, rfl⟩
abbrev main_v328 : Ref sig .tc := ⟨.hbm, 574, rfl⟩
abbrev main_v329 : Ref sig .tc := ⟨.hbm, 575, rfl⟩
abbrev main_v330 : Ref sig .tc := ⟨.hbm, 576, rfl⟩
abbrev main_v331 : Ref sig .tc := ⟨.hbm, 577, rfl⟩
abbrev main_c_73 : Ref sig .tc := ⟨.hbm, 578, rfl⟩
abbrev main_v332 : Ref sig .tc := ⟨.hbm, 579, rfl⟩
abbrev main_v333 : Ref sig .tc := ⟨.hbm, 580, rfl⟩
abbrev main_v334 : Ref sig .tc := ⟨.hbm, 581, rfl⟩
abbrev main_c_74 : Ref sig .tc := ⟨.hbm, 582, rfl⟩
abbrev main_v335 : Ref sig .tc := ⟨.hbm, 583, rfl⟩
abbrev main_v336 : Ref sig .tc := ⟨.hbm, 584, rfl⟩
abbrev main_v337 : Ref sig .tc := ⟨.hbm, 585, rfl⟩
abbrev main_v338 : Ref sig .tc := ⟨.hbm, 586, rfl⟩
abbrev main_v339 : Ref sig .tc := ⟨.hbm, 587, rfl⟩
abbrev main_v340 : Ref sig .tc := ⟨.hbm, 588, rfl⟩
abbrev main_v341 : Ref sig .tc := ⟨.hbm, 589, rfl⟩
abbrev main_v342 : Ref sig .tc := ⟨.hbm, 590, rfl⟩
abbrev main_v343 : Ref sig .tc := ⟨.hbm, 591, rfl⟩
abbrev main_v344 : Ref sig .tc := ⟨.hbm, 592, rfl⟩
abbrev main_v345 : Ref sig .tc := ⟨.hbm, 593, rfl⟩
abbrev main_v346 : Ref sig .tc := ⟨.hbm, 594, rfl⟩
abbrev main_v347 : Ref sig .tc := ⟨.hbm, 595, rfl⟩
abbrev main_v348 : Ref sig .tc := ⟨.hbm, 596, rfl⟩
abbrev main_v349 : Ref sig .tc := ⟨.hbm, 597, rfl⟩
abbrev main_v350 : Ref sig .tc := ⟨.hbm, 598, rfl⟩
abbrev main_c_75 : Ref sig .tc := ⟨.hbm, 599, rfl⟩
abbrev main_v351 : Ref sig .tc := ⟨.hbm, 600, rfl⟩
abbrev main_v352 : Ref sig .tc := ⟨.hbm, 601, rfl⟩
abbrev main_c_76 : Ref sig .tc := ⟨.hbm, 602, rfl⟩
abbrev main_v353 : Ref sig .tc := ⟨.hbm, 603, rfl⟩
abbrev main_v354 : Ref sig .tc := ⟨.hbm, 604, rfl⟩
abbrev main_v355 : Ref sig .tc := ⟨.hbm, 605, rfl⟩
abbrev main_c_77 : Ref sig .tc := ⟨.hbm, 606, rfl⟩
abbrev main_v356 : Ref sig .tc := ⟨.hbm, 607, rfl⟩
abbrev main_v357 : Ref sig .tc := ⟨.hbm, 608, rfl⟩
abbrev main_c_78 : Ref sig .tc := ⟨.hbm, 609, rfl⟩
abbrev main_v358 : Ref sig .tc := ⟨.hbm, 610, rfl⟩
abbrev main_v359 : Ref sig .tc := ⟨.hbm, 611, rfl⟩
abbrev main_v360 : Ref sig .tc := ⟨.hbm, 612, rfl⟩
abbrev main_v361 : Ref sig .tc := ⟨.hbm, 613, rfl⟩
abbrev main_v362 : Ref sig .tc := ⟨.hbm, 614, rfl⟩
abbrev main_v363 : Ref sig .tc := ⟨.hbm, 615, rfl⟩
abbrev main_v364 : Ref sig .tc := ⟨.hbm, 616, rfl⟩
abbrev main_v365 : Ref sig .tc := ⟨.hbm, 617, rfl⟩
abbrev main_v366 : Ref sig .tc := ⟨.hbm, 618, rfl⟩
abbrev main_v367 : Ref sig .tc := ⟨.hbm, 619, rfl⟩
abbrev main_v368 : Ref sig .tc := ⟨.hbm, 620, rfl⟩
abbrev main_c_79 : Ref sig .tc := ⟨.hbm, 621, rfl⟩
abbrev main_v369 : Ref sig .tc := ⟨.hbm, 622, rfl⟩
abbrev main_v370 : Ref sig .tc := ⟨.hbm, 623, rfl⟩
abbrev main_c_80 : Ref sig .tc := ⟨.hbm, 624, rfl⟩
abbrev main_v371 : Ref sig .tc := ⟨.hbm, 625, rfl⟩
abbrev main_v372 : Ref sig .tc := ⟨.hbm, 626, rfl⟩
abbrev main_v373 : Ref sig .tc := ⟨.hbm, 627, rfl⟩
abbrev main_c_81 : Ref sig .tc := ⟨.hbm, 628, rfl⟩
abbrev main_v374 : Ref sig .tc := ⟨.hbm, 629, rfl⟩
abbrev main_v375 : Ref sig .tc := ⟨.hbm, 630, rfl⟩
abbrev main_c_82 : Ref sig .tc := ⟨.hbm, 631, rfl⟩
abbrev main_v376 : Ref sig .tc := ⟨.hbm, 632, rfl⟩
abbrev main_v377 : Ref sig .tc := ⟨.hbm, 633, rfl⟩
abbrev main_v378 : Ref sig .tc := ⟨.hbm, 634, rfl⟩
abbrev main_v379 : Ref sig .tc := ⟨.hbm, 635, rfl⟩
abbrev main_v380 : Ref sig .tc := ⟨.hbm, 636, rfl⟩
abbrev main_v381 : Ref sig .tc := ⟨.hbm, 637, rfl⟩
abbrev main_v382 : Ref sig .tc := ⟨.hbm, 638, rfl⟩
abbrev main_v383 : Ref sig .tc := ⟨.hbm, 639, rfl⟩
abbrev main_v384 : Ref sig .tc := ⟨.hbm, 640, rfl⟩
abbrev main_v385 : Ref sig .tc := ⟨.hbm, 641, rfl⟩
abbrev main_v386 : Ref sig .tc := ⟨.hbm, 642, rfl⟩
abbrev main_v387 : Ref sig .tc := ⟨.hbm, 643, rfl⟩
abbrev main_cst_83 : Ref sig .tc := ⟨.hbm, 644, rfl⟩
abbrev main_v388 : Ref sig .tc := ⟨.hbm, 645, rfl⟩
abbrev main_v389 : Ref sig .tc := ⟨.hbm, 646, rfl⟩
abbrev main_v390 : Ref sig .tc := ⟨.hbm, 647, rfl⟩
abbrev main_v391 : Ref sig .tc := ⟨.hbm, 648, rfl⟩
abbrev main_v392 : Ref sig .tc := ⟨.hbm, 649, rfl⟩
abbrev main_c_84 : Ref sig .tc := ⟨.hbm, 650, rfl⟩
abbrev main_call15_v0 : Ref sig .tc := ⟨.hbm, 651, rfl⟩
abbrev main_call15_v1 : Ref sig .tc := ⟨.hbm, 652, rfl⟩
abbrev main_call15_v2 : Ref sig .tc := ⟨.hbm, 653, rfl⟩
abbrev main_v393 : Ref sig .tc := ⟨.hbm, 654, rfl⟩
abbrev main_c_85 : Ref sig .tc := ⟨.hbm, 655, rfl⟩
abbrev main_v394 : Ref sig .tc := ⟨.hbm, 656, rfl⟩
abbrev main_v395 : Ref sig .tc := ⟨.hbm, 657, rfl⟩
abbrev main_v396 : Ref sig .tc := ⟨.hbm, 658, rfl⟩
abbrev main_call16_c : Ref sig .tc := ⟨.hbm, 659, rfl⟩
abbrev main_call16_v0 : Ref sig .tc := ⟨.hbm, 660, rfl⟩
abbrev main_call16_v1 : Ref sig .tc := ⟨.hbm, 661, rfl⟩
abbrev main_call16_c_0 : Ref sig .tc := ⟨.hbm, 662, rfl⟩
abbrev main_call16_v2 : Ref sig .tc := ⟨.hbm, 663, rfl⟩
abbrev main_call16_v3 : Ref sig .tc := ⟨.hbm, 664, rfl⟩
abbrev main_call16_v4 : Ref sig .tc := ⟨.hbm, 665, rfl⟩
abbrev main_call16_v5 : Ref sig .tc := ⟨.hbm, 666, rfl⟩
abbrev main_call16_c_1 : Ref sig .tc := ⟨.hbm, 667, rfl⟩
abbrev main_call16_c_2 : Ref sig .tc := ⟨.hbm, 668, rfl⟩
abbrev main_call16_v6 : Ref sig .tc := ⟨.hbm, 669, rfl⟩
abbrev main_call16_v7 : Ref sig .tc := ⟨.hbm, 670, rfl⟩
abbrev main_call16_v8 : Ref sig .tc := ⟨.hbm, 671, rfl⟩
abbrev main_call16_v9 : Ref sig .tc := ⟨.hbm, 672, rfl⟩
abbrev main_call16_v10 : Ref sig .tc := ⟨.hbm, 673, rfl⟩
abbrev main_call16_v11 : Ref sig .tc := ⟨.hbm, 674, rfl⟩
abbrev main_call16_c_3 : Ref sig .tc := ⟨.hbm, 675, rfl⟩
abbrev main_call16_v12 : Ref sig .tc := ⟨.hbm, 676, rfl⟩
abbrev main_call16_v13 : Ref sig .tc := ⟨.hbm, 677, rfl⟩
abbrev main_call16_cst : Ref sig .tc := ⟨.hbm, 678, rfl⟩
abbrev main_call16_v14 : Ref sig .tc := ⟨.hbm, 679, rfl⟩
abbrev main_v397 : Ref sig .tc := ⟨.hbm, 680, rfl⟩
abbrev main_v398 : Ref sig .tc := ⟨.hbm, 681, rfl⟩
abbrev main_v399 : Ref sig .tc := ⟨.hbm, 682, rfl⟩
abbrev main_v400 : Ref sig .tc := ⟨.hbm, 683, rfl⟩
abbrev main_c_86 : Ref sig .tc := ⟨.hbm, 684, rfl⟩
abbrev main_call17_v0 : Ref sig .tc := ⟨.hbm, 685, rfl⟩
abbrev main_call17_v1 : Ref sig .tc := ⟨.hbm, 686, rfl⟩
abbrev main_call17_v2 : Ref sig .tc := ⟨.hbm, 687, rfl⟩
abbrev main_call17_v3 : Ref sig .tc := ⟨.hbm, 688, rfl⟩
abbrev main_call17_v4 : Ref sig .tc := ⟨.hbm, 689, rfl⟩
abbrev main_call17_v5 : Ref sig .tc := ⟨.hbm, 690, rfl⟩
abbrev main_call17_v6 : Ref sig .tc := ⟨.hbm, 691, rfl⟩
abbrev main_call17_v7 : Ref sig .tc := ⟨.hbm, 692, rfl⟩
abbrev main_call17_v8 : Ref sig .tc := ⟨.hbm, 693, rfl⟩
abbrev main_call17_c : Ref sig .tc := ⟨.hbm, 694, rfl⟩
abbrev main_call17_v9 : Ref sig .tc := ⟨.hbm, 695, rfl⟩
abbrev main_call17_v10 : Ref sig .tc := ⟨.hbm, 696, rfl⟩
abbrev main_call17_v11 : Ref sig .tc := ⟨.hbm, 697, rfl⟩
abbrev main_call17_c_0 : Ref sig .tc := ⟨.hbm, 698, rfl⟩
abbrev main_call17_v12 : Ref sig .tc := ⟨.hbm, 699, rfl⟩
abbrev main_call17_v13 : Ref sig .tc := ⟨.hbm, 700, rfl⟩
abbrev main_v401 : Ref sig .tc := ⟨.hbm, 701, rfl⟩
abbrev main_c_87 : Ref sig .tc := ⟨.hbm, 702, rfl⟩
abbrev main_v402 : Ref sig .tc := ⟨.hbm, 703, rfl⟩
abbrev main_v403 : Ref sig .tc := ⟨.hbm, 704, rfl⟩
abbrev main_c_88 : Ref sig .tc := ⟨.hbm, 705, rfl⟩
abbrev main_call18_v0 : Ref sig .tc := ⟨.hbm, 706, rfl⟩
abbrev main_call18_v1 : Ref sig .tc := ⟨.hbm, 707, rfl⟩
abbrev main_call18_v2 : Ref sig .tc := ⟨.hbm, 708, rfl⟩
abbrev main_call18_v3 : Ref sig .tc := ⟨.hbm, 709, rfl⟩
abbrev main_call18_v4 : Ref sig .tc := ⟨.hbm, 710, rfl⟩
abbrev main_call18_v5 : Ref sig .tc := ⟨.hbm, 711, rfl⟩
abbrev main_call18_v6 : Ref sig .tc := ⟨.hbm, 712, rfl⟩
abbrev main_call18_v7 : Ref sig .tc := ⟨.hbm, 713, rfl⟩
abbrev main_call18_v8 : Ref sig .tc := ⟨.hbm, 714, rfl⟩
abbrev main_call18_c : Ref sig .tc := ⟨.hbm, 715, rfl⟩
abbrev main_call18_v9 : Ref sig .tc := ⟨.hbm, 716, rfl⟩
abbrev main_call18_v10 : Ref sig .tc := ⟨.hbm, 717, rfl⟩
abbrev main_call18_v11 : Ref sig .tc := ⟨.hbm, 718, rfl⟩
abbrev main_call18_c_0 : Ref sig .tc := ⟨.hbm, 719, rfl⟩
abbrev main_call18_v12 : Ref sig .tc := ⟨.hbm, 720, rfl⟩
abbrev main_call18_v13 : Ref sig .tc := ⟨.hbm, 721, rfl⟩
abbrev main_v404 : Ref sig .tc := ⟨.hbm, 722, rfl⟩
abbrev main_c_89 : Ref sig .tc := ⟨.hbm, 723, rfl⟩
abbrev main_v405 : Ref sig .tc := ⟨.hbm, 724, rfl⟩
abbrev main_v406 : Ref sig .tc := ⟨.hbm, 725, rfl⟩
abbrev main_c_90 : Ref sig .tc := ⟨.hbm, 726, rfl⟩
abbrev main_v407 : Ref sig .tc := ⟨.hbm, 727, rfl⟩
abbrev main_v408 : Ref sig .tc := ⟨.hbm, 728, rfl⟩
abbrev main_v409 : Ref sig .tc := ⟨.hbm, 729, rfl⟩
abbrev main_c_91 : Ref sig .tc := ⟨.hbm, 730, rfl⟩
abbrev main_v410 : Ref sig .tc := ⟨.hbm, 731, rfl⟩
abbrev main_v411 : Ref sig .tc := ⟨.hbm, 732, rfl⟩
abbrev main_c_92 : Ref sig .tc := ⟨.hbm, 733, rfl⟩
abbrev main_v412 : Ref sig .tc := ⟨.hbm, 734, rfl⟩
abbrev main_v413 : Ref sig .tc := ⟨.hbm, 735, rfl⟩
abbrev main_v414 : Ref sig .tc := ⟨.hbm, 736, rfl⟩
abbrev main_c_93 : Ref sig .tc := ⟨.hbm, 737, rfl⟩
abbrev main_v415 : Ref sig .tc := ⟨.hbm, 738, rfl⟩
abbrev main_v416 : Ref sig .tc := ⟨.hbm, 739, rfl⟩
abbrev main_v417 : Ref sig .tc := ⟨.hbm, 740, rfl⟩
abbrev main_v418 : Ref sig .tc := ⟨.hbm, 741, rfl⟩
abbrev main_v419 : Ref sig .tc := ⟨.hbm, 742, rfl⟩
abbrev main_v420 : Ref sig .tc := ⟨.hbm, 743, rfl⟩
abbrev main_v421 : Ref sig .tc := ⟨.hbm, 744, rfl⟩
abbrev main_v422 : Ref sig .tc := ⟨.hbm, 745, rfl⟩
abbrev main_v423 : Ref sig .tc := ⟨.hbm, 746, rfl⟩
abbrev main_c_94 : Ref sig .tc := ⟨.hbm, 747, rfl⟩
abbrev main_v424 : Ref sig .tc := ⟨.hbm, 748, rfl⟩
abbrev main_v425 : Ref sig .tc := ⟨.hbm, 749, rfl⟩
abbrev main_c_95 : Ref sig .tc := ⟨.hbm, 750, rfl⟩
abbrev main_v426 : Ref sig .tc := ⟨.hbm, 751, rfl⟩
abbrev main_v427 : Ref sig .tc := ⟨.hbm, 752, rfl⟩
abbrev main_v428 : Ref sig .tc := ⟨.hbm, 753, rfl⟩
abbrev main_c_96 : Ref sig .tc := ⟨.hbm, 754, rfl⟩
abbrev main_v429 : Ref sig .tc := ⟨.hbm, 755, rfl⟩
abbrev main_v430 : Ref sig .tc := ⟨.hbm, 756, rfl⟩
abbrev main_c_97 : Ref sig .tc := ⟨.hbm, 757, rfl⟩
abbrev main_v431 : Ref sig .tc := ⟨.hbm, 758, rfl⟩
abbrev main_v432 : Ref sig .tc := ⟨.hbm, 759, rfl⟩
abbrev main_v433 : Ref sig .tc := ⟨.hbm, 760, rfl⟩
abbrev main_v434 : Ref sig .tc := ⟨.hbm, 761, rfl⟩
abbrev main_v435 : Ref sig .tc := ⟨.hbm, 762, rfl⟩
abbrev main_v436 : Ref sig .tc := ⟨.hbm, 763, rfl⟩
abbrev main_v437 : Ref sig .tc := ⟨.hbm, 764, rfl⟩
abbrev main_v438 : Ref sig .tc := ⟨.hbm, 765, rfl⟩
abbrev main_v439 : Ref sig .tc := ⟨.hbm, 766, rfl⟩
abbrev main_v440 : Ref sig .tc := ⟨.hbm, 767, rfl⟩
abbrev main_v441 : Ref sig .tc := ⟨.hbm, 768, rfl⟩

abbrev nD : Nat := 1
abbrev τ : Topo := Topo.v7x

variable {F : FTy → Type} [FloatOps F]
-- ==== Proof.Body.lean ====
/-
  What one grid point of the kernel computes, as ONE vector function of the comparison array: the kernel runs the same
  body twice, once for each comparison array, on a [136, 2048] slab (128 rows of its own and the 8 rows that follow).
  `block a c row0` is that body; the two stored payloads are `block` of the two slabs.
-/
module

public import proofs.«01_k».proof.Proof.Gen.KernelIdeal.Value
public import Idealize.ShloMosaic.Lib.Pointwise

@[expose] public section

noncomputable section

namespace Cert.PoolBody

open Cert.KernelIdeal Cert.KernelIdeal.Gen Idealize.ShloMosaic Idealize.ShloMosaic.TcCoe

variable {F : FTy → Type} [FloatOps F]

/-- A [128, 2048] vector of floats. -/
abbrev V128 (F : FTy → Type) := FVec F S128x2048 .f32
/-- A [136, 2048] vector of floats. -/
abbrev V136 (F : FTy → Type) := FVec F S136x2048 .f32

/-- Where the row number is even. -/
def evenR : IVec S128x2048 1 := k0_pay8
/-- Where the column number is even. -/
def evenC : IVec S128x2048 1 := k0_pay9 (iota .tc S128x2048 32 [1] iota_S128x2048_d1_w32) 2#32 (Scalar.cmpi .eq 2#32 0#32)

/-- Window row `k` of the slab: from an even row on itself, from an odd row on the row before it. -/
def rowSel (o : Fin 2 → ℕ) (h : S136x2048.Slices o S128x2048) (x : V136 F) : V128 F :=
  select evenR (extractStridedSlice S128x2048 o x h)
    (extractStridedSlice S128x2048 o (dynamicRotate 0 1#32 none x rotates_S136x2048_d0) h)

/-- `x` rotated by `s` along the columns. -/
def rotC (s : BitVec 32) (x : V128 F) : V128 F := dynamicRotate 1 s none x rotates_S128x2048_d1

/-- Window column 0, 1 or 2 of a row-selected vector, by the rotations `s` (even columns) and `s'` (odd columns). -/
def colSel (s s' : BitVec 32) (x : V128 F) : V128 F := select evenC (rotC s x) (rotC s' x)

/-- One step of the running minimum: the running distance and value. -/
def stepMin (cd cc : V128 F) (b : V128 F × V128 F) : V128 F × V128 F :=
  (select (cmpf .olt cd b.1) cd b.1, select (cmpf .olt cd b.1) cc b.2)
/-- One step of the running maximum: the running distance and value. -/
def stepMax (cd cc : V128 F) (b : V128 F × V128 F) : V128 F × V128 F :=
  (select (cmpf .ogt cd b.1) cd b.1, select (cmpf .ogt cd b.1) cc b.2)

/-- The nine candidates of a slab `x`, at each pixel those of its window, in row-major order. -/
def cand (x : V136 F) (q : Fin 9) : V128 F :=
  match q with
  | 0 => colSel 0#32 1#32 (rowSel ![0, 0] slices_S136x2048_o0_0_S128x2048 x)
  | 1 => colSel 2047#32 0#32 (rowSel ![0, 0] slices_S136x2048_o0_0_S128x2048 x)
  | 2 => colSel 2046#32 2047#32 (rowSel ![0, 0] slices_S136x2048_o0_0_S128x2048 x)
  | 3 => colSel 0#32 1#32 (rowSel ![1, 0] slices_S136x2048_o1_0_S128x2048 x)
  | 4 => colSel 2047#32 0#32 (rowSel ![1, 0] slices_S136x2048_o1_0_S128x2048 x)
  | 5 => colSel 2046#32 2047#32 (rowSel ![1, 0] slices_S136x2048_o1_0_S128x2048 x)
  | 6 => colSel 0#32 1#32 (rowSel ![2, 0] slices_S136x2048_o2_0_S128x2048 x)
  | 7 => colSel 2047#32 0#32 (rowSel ![2, 0] slices_S136x2048_o2_0_S128x2048 x)
  | 8 => colSel 2046#32 2047#32 (rowSel ![2, 0] slices_S136x2048_o2_0_S128x2048 x)

/-- The running minimum over the nine candidates: its distance and its value. -/
def scanMin (d c : V136 F) : V128 F × V128 F :=
  stepMin (cand d 8) (cand c 8) <| stepMin (cand d 7) (cand c 7) <| stepMin (cand d 6) (cand c 6) <|
  stepMin (cand d 5) (cand c 5) <| stepMin (cand d 4) (cand c 4) <| stepMin (cand d 3) (cand c 3) <|
  stepMin (cand d 2) (cand c 2) <| stepMin (cand d 1) (cand c 1) (cand d 0, cand c 0)
/-- The running maximum over the nine candidates: its distance and its value. -/
def scanMax (d c : V136 F) : V128 F × V128 F :=
  stepMax (cand d 8) (cand c 8) <| stepMax (cand d 7) (cand c 7) <| stepMax (cand d 6) (cand c 6) <|
  stepMax (cand d 5) (cand c 5) <| stepMax (cand d 4) (cand c 4) <| stepMax (cand d 3) (cand c 3) <|
  stepMax (cand d 2) (cand c 2) <| stepMax (cand d 1) (cand c 1) (cand d 0, cand c 0)

/-- The row numbers of the whole array, where the block's first row is `row0`. -/
def rowG (row0 : BitVec 32) : IVec S128x2048 32 :=
  addi (iota .tc S128x2048 32 [0] iota_S128x2048_d0_w32) (broadcast S128x2048 row0)
/-- The column numbers. -/
def colG : IVec S128x2048 32 := iota .tc S128x2048 32 [1] iota_S128x2048_d1_w32

/-- The last column of the windows, which takes over what the column two before it holds. -/
def fixC (x : V128 F) : V128 F := select (cmpi .eq colG (broadcast S128x2048 2046#32)) (rotC 2#32 x) x
/-- The last row of the windows, which takes over what the row two before it holds. -/
def fixR (row0 : BitVec 32) (x : V128 F) : V128 F :=
  select (cmpi .eq (rowG row0) (broadcast S128x2048 2046#32)) (dynamicRotate 0 2#32 none x rotates_S128x2048_d0) x
/-- The last row and the last column, which no window covers: twice the comparison array. -/
def fixEdge (row0 : BitVec 32) (c : V136 F) (x : V128 F) : V128 F :=
  select (ori (cmpi .eq (rowG row0) (broadcast S128x2048 2047#32)) (cmpi .eq colG (broadcast S128x2048 2047#32)))
    (mulf (broadcast S128x2048 (Scalar.ofBits .f32 0x40000000#32)) (extractStridedSlice S128x2048 ![0, 0] c slices_S136x2048_o0_0_S128x2048)) x

/-- The body for one comparison slab `c` against the anchor slab `a`. -/
def block (row0 : BitVec 32) (a c : V136 F) : V128 F :=
  fixEdge row0 c (fixR row0 (fixC (addf (scanMin (absf (subf a c)) c).2 (scanMax (absf (subf a c)) c).2)))

/-- A slab: 128 rows and the 8 rows that follow them. -/
def slab (x : Vec F S128x2048 .f32) (y : Vec F S8x2048 .f32) : V136 F :=
  concatenate S136x2048 0 [⟨S128x2048, x⟩, ⟨S8x2048, y⟩] concatenates_S128x2048_S8x2048_S136x2048_d0

set_option maxRecDepth 16384 in
/-- What the first output's block holds: `block` of the anchor's slab and the first comparison array's. -/
theorem out6_eq (i : grid0.Coords) (x0 x1 x2 : Vec F S128x2048 .f32) (x3 x4 x5 : Vec F S8x2048 .f32) :
    out0_6 i x0 x1 x2 x3 x4 x5 = block (Scalar.muli (BitVec.ofNat 32 (i 0).val) 128#32) (slab x0 x3) (slab x1 x4) := by
  unfold_out out0_6
  rw [View.canon_unit_zero (by funext a; fin_cases a <;> rfl)]
  have e0 : ∀ x : Vec F S128x2048 .f32, View.ld x r0_0 = x := fun x => View.ld_unit_zero (by funext a; fin_cases a <;> rfl) _ x
  have e1 : ∀ x : Vec F S8x2048 .f32, View.ld x r0_1 = x := fun x => View.ld_unit_zero (by funext a; fin_cases a <;> rfl) _ x
  simp only [e0, e1]
  rfl

set_option maxRecDepth 16384 in
/-- What the second output's block holds: `block` of the anchor's slab and the second comparison array's. -/
theorem out7_eq (i : grid0.Coords) (x0 x1 x2 : Vec F S128x2048 .f32) (x3 x4 x5 : Vec F S8x2048 .f32) :
    out0_7 i x0 x1 x2 x3 x4 x5 = block (Scalar.muli (BitVec.ofNat 32 (i 0).val) 128#32) (slab x0 x3) (slab x2 x5) := by
  unfold_out out0_7
  rw [View.canon_unit_zero (by funext a; fin_cases a <;> rfl)]
  have e0 : ∀ x : Vec F S128x2048 .f32, View.ld x r0_0 = x := fun x => View.ld_unit_zero (by funext a; fin_cases a <;> rfl) _ x
  have e1 : ∀ x : Vec F S8x2048 .f32, View.ld x r0_1 = x := fun x => View.ld_unit_zero (by funext a; fin_cases a <;> rfl) _ x
  simp only [e0, e1]
  rfl

end Cert.PoolBody

end
-- ==== Proof.Pick.lean ====
/-
  The mathematics both programs compute: of the nine pixels of a 3 x 3 window, the FIRST at which the distance is
  smallest (and the first at which it is largest), in row-major order; and the array that spreads the picked values
  over the image. `Pool A C r c v` says that `v` is the value of that array at row `r` and column `c`.
-/
module

public import Idealize.ShloMosaic.Lib.Pointwise

@[expose] public section

noncomputable section

namespace Cert.Pick

open Idealize.ShloMosaic

section Order
variable {α β : Type} [LinearOrder α]

/-- `q` is the first position at which `D` is smallest. -/
def FirstMin (D : Fin 9 → α) (q : Fin 9) : Prop := (∀ p, D q ≤ D p) ∧ ∀ p < q, D q < D p
/-- `q` is the first position at which `D` is largest. -/
def FirstMax (D : Fin 9 → α) (q : Fin 9) : Prop := (∀ p, D p ≤ D q) ∧ ∀ p < q, D p < D q

/-- There is only one first position of the smallest entry. -/
theorem FirstMin.unique {D : Fin 9 → α} {q q' : Fin 9} (h : FirstMin D q) (h' : FirstMin D q') : q = q' := by
  rcases lt_trichotomy q q' with hlt | he | hgt
  · exact absurd (h'.2 q hlt) (not_lt.mpr (h.1 q'))
  · exact he
  · exact absurd (h.2 q' hgt) (not_lt.mpr (h'.1 q))

/-- There is only one first position of the largest entry. -/
theorem FirstMax.unique {D : Fin 9 → α} {q q' : Fin 9} (h : FirstMax D q) (h' : FirstMax D q') : q = q' := by
  rcases lt_trichotomy q q' with hlt | he | hgt
  · exact absurd (h'.2 q hlt) (not_lt.mpr (h.1 q'))
  · exact he
  · exact absurd (h.2 q' hgt) (not_lt.mpr (h'.1 q))

/-- Every nine entries have a first smallest one. -/
theorem exists_firstMin (D : Fin 9 → α) : ∃ q, FirstMin D q := by
  obtain ⟨m, hm⟩ := Finite.exists_min D
  have hex : ∃ n : ℕ, ∃ h : n < 9, D ⟨n, h⟩ = D m := ⟨m.val, m.isLt, rfl⟩
  classical
  obtain ⟨h9, hn⟩ := Nat.find_spec hex
  refine ⟨⟨Nat.find hex, h9⟩, fun p => hn.le.trans (hm p), fun p hp => ?_⟩
  rw [hn]
  refine lt_of_le_of_ne (hm p) fun e => ?_
  exact Nat.find_min hex (m := p.val) hp ⟨p.isLt, e.symm⟩

/-- Every nine entries have a first largest one. -/
theorem exists_firstMax (D : Fin 9 → α) : ∃ q, FirstMax D q := by
  obtain ⟨q, h1, h2⟩ := exists_firstMin (α := αᵒᵈ) (fun p => OrderDual.toDual (D p))
  exact ⟨q, h1, h2⟩

/-- `b` holds the smallest entry of the first `n + 1` and the companion value at its first position. -/
def BestMin (D : Fin 9 → α) (C : Fin 9 → β) (n : Fin 9) (b : α × β) : Prop :=
  ∃ q ≤ n, b = (D q, C q) ∧ (∀ p ≤ n, D q ≤ D p) ∧ ∀ p < q, D q < D p
/-- `b` holds the largest entry of the first `n + 1` and the companion value at its first position. -/
def BestMax (D : Fin 9 → α) (C : Fin 9 → β) (n : Fin 9) (b : α × β) : Prop :=
  ∃ q ≤ n, b = (D q, C q) ∧ (∀ p ≤ n, D p ≤ D q) ∧ ∀ p < q, D p < D q

/-- The running minimum starts at the first entry. -/
theorem BestMin.zero (D : Fin 9 → α) (C : Fin 9 → β) : BestMin D C 0 (D 0, C 0) :=
  ⟨0, le_refl _, rfl, fun p hp => by rw [Fin.le_zero_iff.mp hp], fun p hp => absurd hp (Fin.not_lt_zero p)⟩

/-- One step of the running minimum: a strictly smaller entry replaces what is held. -/
theorem BestMin.step {D : Fin 9 → α} {C : Fin 9 → β} {n m : Fin 9} {b : α × β} (hm : m.val = n.val + 1)
    (h : BestMin D C n b) : BestMin D C m (if D m < b.1 then D m else b.1, if D m < b.1 then C m else b.2) := by
  obtain ⟨q, hq, rfl, h1, h2⟩ := h
  have hle : ∀ p : Fin 9, p ≤ m → p ≤ n ∨ p = m := fun p hp => by
    rcases Nat.lt_or_ge n.val p.val with h | h
    · exact Or.inr (Fin.ext (le_antisymm hp (by omega)))
    · exact Or.inl h
  have hnm : n ≤ m := by show n.val ≤ m.val; omega
  by_cases hlt : D m < D q
  · refine ⟨m, le_refl _, by simp only [hlt, if_true], fun p hp => ?_, fun p hp => ?_⟩
    · rcases hle p hp with hp | rfl
      · exact (hlt.trans_le (h1 p hp)).le
      · exact le_refl _
    · refine hlt.trans_le (h1 p ?_)
      show p.val ≤ n.val
      have : p.val < m.val := hp
      omega
  · refine ⟨q, hq.trans hnm, by simp only [hlt, if_false], fun p hp => ?_, h2⟩
    rcases hle p hp with hp | rfl
    · exact h1 p hp
    · exact not_lt.mp hlt

/-- The running maximum starts at the first entry. -/
theorem BestMax.zero (D : Fin 9 → α) (C : Fin 9 → β) : BestMax D C 0 (D 0, C 0) :=
  BestMin.zero (α := αᵒᵈ) (fun p => OrderDual.toDual (D p)) C

/-- One step of the running maximum: a strictly larger entry replaces what is held. -/
theorem BestMax.step {D : Fin 9 → α} {C : Fin 9 → β} {n m : Fin 9} {b : α × β} (hm : m.val = n.val + 1)
    (h : BestMax D C n b) : BestMax D C m (if b.1 < D m then D m else b.1, if b.1 < D m then C m else b.2) :=
  BestMin.step (α := αᵒᵈ) (D := fun p => OrderDual.toDual (D p)) (b := (OrderDual.toDual b.1, b.2)) hm h

/-- After all nine steps the running minimum holds the companion value at the first smallest entry. -/
theorem BestMin.last {D : Fin 9 → α} {C : Fin 9 → β} {b : α × β} (h : BestMin D C 8 b) : ∃ q, FirstMin D q ∧ b.2 = C q := by
  obtain ⟨q, _, rfl, h1, h2⟩ := h
  exact ⟨q, ⟨fun p => h1 p (Fin.le_last p), h2⟩, rfl⟩
/-- After all nine steps the running maximum holds the companion value at the first largest entry. -/
theorem BestMax.last {D : Fin 9 → α} {C : Fin 9 → β} {b : α × β} (h : BestMax D C 8 b) : ∃ q, FirstMax D q ∧ b.2 = C q := by
  obtain ⟨q, _, rfl, h1, h2⟩ := h
  exact ⟨q, ⟨fun p => h1 p (Fin.le_last p), h2⟩, rfl⟩

end Order

/-- A [2048, 2048] array of extended reals. -/
abbrev Arr := (⟨2, ![2048, 2048]⟩ : Shape).Idx → EReal

/-- The entry at row `r` and column `c` (below 2048 each). -/
def at2 (X : Arr) (r c : ℕ) : EReal := X (ix2 ⟨r % 2048, Nat.mod_lt _ (by decide)⟩ ⟨c % 2048, Nat.mod_lt _ (by decide)⟩)

/-- At an index of the array `at2` is the entry there. -/
theorem at2_ix2 (X : Arr) (r c : Fin 2048) : at2 X r.val c.val = X (ix2 r c) := by
  unfold at2
  congr 2
  · exact Fin.ext (Nat.mod_eq_of_lt r.isLt)
  · exact Fin.ext (Nat.mod_eq_of_lt c.isLt)

/-- Position `q` of window `(i, j)`, row-major in the 3 x 3 patch at row `2 i` and column `2 j`. -/
def win (X : Arr) (i j : ℕ) (q : Fin 9) : EReal := at2 X (2 * i + q.val / 3) (2 * j + q.val % 3)

/-- The distance of the two arrays at position `q` of window `(i, j)`. -/
def dist (A C : Arr) (i j : ℕ) (q : Fin 9) : EReal :=
  FloatOps.absf (F := Ideal) (φ := .f32) (FloatOps.subf (F := Ideal) (φ := .f32) (win A i j q) (win C i j q))

/-- `v` is the comparison array's value where window `(i, j)` has its first smallest distance. -/
def PickMin (A C : Arr) (i j : ℕ) (v : EReal) : Prop := ∃ q, FirstMin (dist A C i j) q ∧ v = win C i j q
/-- `v` is the comparison array's value where window `(i, j)` has its first largest distance. -/
def PickMax (A C : Arr) (i j : ℕ) (v : EReal) : Prop := ∃ q, FirstMax (dist A C i j) q ∧ v = win C i j q

/-- `v` is the value of the result at row `r` and column `c`: twice the comparison array on the last row and the last
    column, elsewhere the sum of the two picks of the last window that covers the pixel. -/
def Pool (A C : Arr) (r c : ℕ) (v : EReal) : Prop :=
  if r = 2047 ∨ c = 2047 then v = at2 C r c + at2 C r c
  else ∃ x y, PickMin A C (min (r / 2) 1022) (min (c / 2) 1022) x ∧ PickMax A C (min (r / 2) 1022) (min (c / 2) 1022) y ∧ v = x + y

/-- The result at a pixel is determined. -/
theorem Pool.unique {A C : Arr} {r c : ℕ} {v v' : EReal} (h : Pool A C r c v) (h' : Pool A C r c v') : v = v' := by
  unfold Pool at h h'
  split at h
  · rw [if_pos (by assumption)] at h'; rw [h, h']
  · rw [if_neg (by assumption)] at h'
    obtain ⟨_, _, ⟨p, hp, rfl⟩, ⟨q, hq, rfl⟩, rfl⟩ := h
    obtain ⟨_, _, ⟨p', hp', rfl⟩, ⟨q', hq', rfl⟩, rfl⟩ := h'
    rw [hp.unique hp', hq.unique hq']

end Cert.Pick

end
-- ==== Proof.Candidates.lean ====
/-
  The candidates of the body read at an index: they are the nine pixels of a window of the slab.
-/
module

public import proofs.«01_k».proof.Proof.Body
public import proofs.«01_k».proof.Proof.Pick

@[expose] public section

noncomputable section

namespace Cert.PoolBody

open Cert.KernelIdeal Cert.KernelIdeal.Gen Idealize.ShloMosaic Idealize.ShloMosaic.TcCoe Cert.Pick

/-- The test for an even number as the kernel writes it (remainder, then a sign correction), on the word of `n`. -/
theorem even_word (n : ℕ) (hn : n < 2048) : IntOp.cmpi CmpIPredicate.eq
      (Scalar.select
        (IntOp.andi
          (IntOp.xori
            (IntOp.cmpi CmpIPredicate.slt
              (IntOp.remsi ArithUnit.vector (BitVec.ofNat 32 n)
                (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 n)
              (Scalar.select (Scalar.cmpi CmpIPredicate.eq 2#32 0#32) 1#32 2#32))
            0#32))
        (IntOp.addi
          (IntOp.remsi ArithUnit.vector (BitVec.ofNat 32 n)
            (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 n)
          (Scalar.select (Scalar.cmpi CmpIPredicate.eq 2#32 0#32) 1#32 2#32)))
      0#32 = BitVec.ofBool (decide (n % 2 = 0)) := by
  have e : Scalar.select (Scalar.cmpi CmpIPredicate.eq 2#32 0#32) 1#32 2#32 = 2#32 := by decide
  simp only [e]
  have hr : IntOp.remsi ArithUnit.vector (BitVec.ofNat 32 n) 2#32 = BitVec.ofNat 32 (n % 2) := by
    revert n; decide +kernel
  rw [hr]
  rcases Nat.mod_two_eq_zero_or_one n with h | h <;> rw [h] <;> decide

/-- The row test at an index. -/
theorem evenR_apply (r : Fin 128) (c : Fin 2048) : evenR (ix2 r c) = BitVec.ofBool (decide (r.val % 2 = 0)) := by
  pointwise [evenR, k0_pay8]
  exact even_word r.val (by omega)

/-- The column test at an index. -/
theorem evenC_apply (r : Fin 128) (c : Fin 2048) : evenC (ix2 r c) = BitVec.ofBool (decide (c.val % 2 = 0)) := by
  pointwise [evenC, k0_pay9]
  exact even_word c.val c.isLt

section Read
variable {F : FTy → Type} [FloatOps F]

/-- The entry of a slab at row `r` and column `c`. -/
def sl (x : V136 F) (r c : ℕ) : F .f32 := x (ix2 ⟨r % 136, Nat.mod_lt _ (by decide)⟩ ⟨c % 2048, Nat.mod_lt _ (by decide)⟩)

/-- The entry of a slab by the numbers of its row and column. -/
theorem sl_eq (x : V136 F) (r : Fin 136) (c : Fin 2048) (r' c' : ℕ) (hr : r' % 136 = r.val) (hc : c' % 2048 = c.val) :
    x (ix2 r c) = sl x r' c' := by
  unfold sl
  congr 2
  · exact Fin.ext hr.symm
  · exact Fin.ext hc.symm

/-- Window row 0 of a slab, at an index. -/
theorem rowSel0 (x : V136 F) (r : Fin 128) (c : Fin 2048) :
    rowSel ![0, 0] slices_S136x2048_o0_0_S128x2048 x (ix2 r c) = sl x (2 * (r.val / 2) + 0) c.val := by
  pointwise [rowSel]
  rw [evenR_apply, Scalar.select_decide]
  split <;> apply sl_eq <;> (try dsimp only) <;> omega

/-- Window row 1 of a slab, at an index. -/
theorem rowSel1 (x : V136 F) (r : Fin 128) (c : Fin 2048) :
    rowSel ![1, 0] slices_S136x2048_o1_0_S128x2048 x (ix2 r c) = sl x (2 * (r.val / 2) + 1) c.val := by
  pointwise [rowSel]
  rw [evenR_apply, Scalar.select_decide]
  split <;> apply sl_eq <;> (try dsimp only) <;> omega

/-- Window row 2 of a slab, at an index. -/
theorem rowSel2 (x : V136 F) (r : Fin 128) (c : Fin 2048) :
    rowSel ![2, 0] slices_S136x2048_o2_0_S128x2048 x (ix2 r c) = sl x (2 * (r.val / 2) + 2) c.val := by
  pointwise [rowSel]
  rw [evenR_apply, Scalar.select_decide]
  split <;> apply sl_eq <;> (try dsimp only) <;> omega

set_option maxRecDepth 16384 in
/-- A vector that reads a slab at the columns, shifted to window column 0. -/
theorem colSel0 (x : V128 F) (s : V136 F) (R : ℕ) (r : Fin 128) (h : ∀ c : Fin 2048, x (ix2 r c) = sl s R c.val) (c : Fin 2048) :
    colSel 0#32 1#32 x (ix2 r c) = sl s R (2 * (c.val / 2) + 0) := by
  pointwise [colSel, rotC]
  rw [evenC_apply, Scalar.select_decide]
  simp only [h]
  split <;> unfold sl <;> congr 3 <;> omega

set_option maxRecDepth 16384 in
/-- A vector that reads a slab at the columns, shifted to window column 1. -/
theorem colSel1 (x : V128 F) (s : V136 F) (R : ℕ) (r : Fin 128) (h : ∀ c : Fin 2048, x (ix2 r c) = sl s R c.val) (c : Fin 2048) :
    colSel 2047#32 0#32 x (ix2 r c) = sl s R (2 * (c.val / 2) + 1) := by
  pointwise [colSel, rotC]
  rw [evenC_apply, Scalar.select_decide]
  simp only [h]
  split <;> unfold sl <;> congr 3 <;> omega

set_option maxRecDepth 16384 in
/-- A vector that reads a slab at the columns, shifted to window column 2. -/
theorem colSel2 (x : V128 F) (s : V136 F) (R : ℕ) (r : Fin 128) (h : ∀ c : Fin 2048, x (ix2 r c) = sl s R c.val) (c : Fin 2048) :
    colSel 2046#32 2047#32 x (ix2 r c) = sl s R (2 * (c.val / 2) + 2) := by
  pointwise [colSel, rotC]
  rw [evenC_apply, Scalar.select_decide]
  simp only [h]
  split <;> unfold sl <;> congr 3 <;> omega

/-- Candidate `q` of a slab at a pixel: position `q` of the window that starts at the even row and the even column at or
    before the pixel. -/
theorem cand_apply (x : V136 F) (q : Fin 9) (r : Fin 128) (c : Fin 2048) :
    cand x q (ix2 r c) = sl x (2 * (r.val / 2) + q.val / 3) (2 * (c.val / 2) + q.val % 3) := by
  match q with
  | 0 => exact colSel0 _ _ _ _ (rowSel0 x r) c
  | 1 => exact colSel1 _ _ _ _ (rowSel0 x r) c
  | 2 => exact colSel2 _ _ _ _ (rowSel0 x r) c
  | 3 => exact colSel0 _ _ _ _ (rowSel1 x r) c
  | 4 => exact colSel1 _ _ _ _ (rowSel1 x r) c
  | 5 => exact colSel2 _ _ _ _ (rowSel1 x r) c
  | 6 => exact colSel0 _ _ _ _ (rowSel2 x r) c
  | 7 => exact colSel1 _ _ _ _ (rowSel2 x r) c
  | 8 => exact colSel2 _ _ _ _ (rowSel2 x r) c

end Read

end Cert.PoolBody

end
-- ==== Proof.Scan.lean ====
/-
  The body's running minimum and maximum read at an index: they pick the first smallest and the first largest distance.
-/
module

public import proofs.«01_k».proof.Proof.Body
public import proofs.«01_k».proof.Proof.Pick

@[expose] public section

noncomputable section

namespace Cert.PoolBody

open Cert.KernelIdeal Cert.KernelIdeal.Gen Idealize.ShloMosaic Idealize.ShloMosaic.TcCoe Cert.Pick

/-- One step of the running minimum, at an index. -/
theorem stepMin_apply (cd cc : V128 Ideal) (b : V128 Ideal × V128 Ideal) (j : S128x2048.Idx) :
    ((stepMin cd cc b).1 j, (stepMin cd cc b).2 j)
      = (if (cd j : EReal) < b.1 j then cd j else b.1 j, if (cd j : EReal) < b.1 j then cc j else b.2 j) := by
  have h : FloatOps.cmpf .olt (cd j) (b.1 j) = BitVec.ofBool (decide ((cd j : EReal) < b.1 j)) := rfl
  show (Scalar.select (FloatOps.cmpf .olt (cd j) (b.1 j)) (cd j) (b.1 j), Scalar.select (FloatOps.cmpf .olt (cd j) (b.1 j)) (cc j) (b.2 j)) = _
  rw [h, Scalar.select_decide, Scalar.select_decide]

/-- One step of the running maximum, at an index. -/
theorem stepMax_apply (cd cc : V128 Ideal) (b : V128 Ideal × V128 Ideal) (j : S128x2048.Idx) :
    ((stepMax cd cc b).1 j, (stepMax cd cc b).2 j)
      = (if (b.1 j : EReal) < cd j then cd j else b.1 j, if (b.1 j : EReal) < cd j then cc j else b.2 j) := by
  have h : FloatOps.cmpf .ogt (cd j) (b.1 j) = BitVec.ofBool (decide ((b.1 j : EReal) < cd j)) := rfl
  show (Scalar.select (FloatOps.cmpf .ogt (cd j) (b.1 j)) (cd j) (b.1 j), Scalar.select (FloatOps.cmpf .ogt (cd j) (b.1 j)) (cc j) (b.2 j)) = _
  rw [h, Scalar.select_decide, Scalar.select_decide]

/-- The running minimum, at an index: the candidate of `c` at the first smallest candidate of `d`. -/
theorem scanMin_apply (d c : V136 Ideal) (j : S128x2048.Idx) :
    ∃ q, FirstMin (α := EReal) (fun q => cand d q j) q ∧ (scanMin d c).2 j = cand c q j := by
  have s : ∀ (n m : Fin 9), m.val = n.val + 1 → ∀ b b' : V128 Ideal × V128 Ideal, stepMin (cand d m) (cand c m) b = b' →
      BestMin (α := EReal) (β := EReal) (fun q => cand d q j) (fun q => cand c q j) n (b.1 j, b.2 j) →
      BestMin (α := EReal) (β := EReal) (fun q => cand d q j) (fun q => cand c q j) m (b'.1 j, b'.2 j) := by
    rintro n m hm b _ rfl h
    rw [stepMin_apply]
    exact BestMin.step (α := EReal) (D := fun q => cand d q j) (C := fun q => cand c q j) (b := (b.1 j, b.2 j)) hm h
  unfold scanMin
  generalize h1 : stepMin (cand d 1) (cand c 1) (cand d 0, cand c 0) = b1
  generalize h2 : stepMin (cand d 2) (cand c 2) b1 = b2
  generalize h3 : stepMin (cand d 3) (cand c 3) b2 = b3
  generalize h4 : stepMin (cand d 4) (cand c 4) b3 = b4
  generalize h5 : stepMin (cand d 5) (cand c 5) b4 = b5
  generalize h6 : stepMin (cand d 6) (cand c 6) b5 = b6
  generalize h7 : stepMin (cand d 7) (cand c 7) b6 = b7
  generalize h8 : stepMin (cand d 8) (cand c 8) b7 = b8
  have z := BestMin.zero (α := EReal) (β := EReal) (fun q => cand d q j) (fun q => cand c q j)
  have t1 := s 0 1 rfl _ b1 h1 z
  have t2 := s 1 2 rfl b1 b2 h2 t1
  have t3 := s 2 3 rfl b2 b3 h3 t2
  have t4 := s 3 4 rfl b3 b4 h4 t3
  have t5 := s 4 5 rfl b4 b5 h5 t4
  have t6 := s 5 6 rfl b5 b6 h6 t5
  have t7 := s 6 7 rfl b6 b7 h7 t6
  have t8 := s 7 8 rfl b7 b8 h8 t7
  obtain ⟨q, hq, e⟩ := t8.last
  exact ⟨q, hq, e⟩

/-- The running maximum, at an index: the candidate of `c` at the first largest candidate of `d`. -/
theorem scanMax_apply (d c : V136 Ideal) (j : S128x2048.Idx) :
    ∃ q, FirstMax (α := EReal) (fun q => cand d q j) q ∧ (scanMax d c).2 j = cand c q j := by
  have s : ∀ (n m : Fin 9), m.val = n.val + 1 → ∀ b b' : V128 Ideal × V128 Ideal, stepMax (cand d m) (cand c m) b = b' →
      BestMax (α := EReal) (β := EReal) (fun q => cand d q j) (fun q => cand c q j) n (b.1 j, b.2 j) →
      BestMax (α := EReal) (β := EReal) (fun q => cand d q j) (fun q => cand c q j) m (b'.1 j, b'.2 j) := by
    rintro n m hm b _ rfl h
    rw [stepMax_apply]
    exact BestMax.step (α := EReal) (D := fun q => cand d q j) (C := fun q => cand c q j) (b := (b.1 j, b.2 j)) hm h
  unfold scanMax
  generalize h1 : stepMax (cand d 1) (cand c 1) (cand d 0, cand c 0) = b1
  generalize h2 : stepMax (cand d 2) (cand c 2) b1 = b2
  generalize h3 : stepMax (cand d 3) (cand c 3) b2 = b3
  generalize h4 : stepMax (cand d 4) (cand c 4) b3 = b4
  generalize h5 : stepMax (cand d 5) (cand c 5) b4 = b5
  generalize h6 : stepMax (cand d 6) (cand c 6) b5 = b6
  generalize h7 : stepMax (cand d 7) (cand c 7) b6 = b7
  generalize h8 : stepMax (cand d 8) (cand c 8) b7 = b8
  have z := BestMax.zero (α := EReal) (β := EReal) (fun q => cand d q j) (fun q => cand c q j)
  have t1 := s 0 1 rfl _ b1 h1 z
  have t2 := s 1 2 rfl b1 b2 h2 t1
  have t3 := s 2 3 rfl b2 b3 h3 t2
  have t4 := s 3 4 rfl b3 b4 h4 t3
  have t5 := s 4 5 rfl b4 b5 h5 t4
  have t6 := s 5 6 rfl b5 b6 h6 t5
  have t7 := s 6 7 rfl b6 b7 h7 t6
  have t8 := s 7 8 rfl b7 b8 h8 t7
  obtain ⟨q, hq, e⟩ := t8.last
  exact ⟨q, hq, e⟩

end Cert.PoolBody

end
-- ==== Proof.BlockValue.lean ====
/-
  The body of one grid point read at an index: its running minimum and maximum pick from the windows of the two arrays,
  and its three fix-ups hand the pixels beyond the last windows what `Pool` says.
-/
module

public import proofs.«01_k».proof.Proof.Candidates
public import proofs.«01_k».proof.Proof.Scan

@[expose] public section

noncomputable section

namespace Cert.PoolBody

open Cert.KernelIdeal Cert.KernelIdeal.Gen Idealize.ShloMosaic Idealize.ShloMosaic.TcCoe Cert.Pick

/-- The slab `x` of grid point `b` holds the rows of `X` from row `128 b` on: its first 128 rows always, the 8 rows after
    them except at the last point. -/
def Holds (x : V136 Ideal) (X : Arr) (b : ℕ) : Prop :=
  ∀ r c : ℕ, r < 136 → c < 2048 → r < 128 ∨ b < 15 → sl x r c = at2 X (128 * b + r) c

/-- A candidate of a slab at a pixel whose window lies in the array: the window's position `q`. -/
theorem cand_win {x : V136 Ideal} {X : Arr} {b : ℕ} (hb : b < 16) (h : Holds x X b) (q : Fin 9) (r : Fin 128) (c : Fin 2048)
    (hr : 128 * b + r.val < 2046) (hc : c.val < 2046) :
    cand x q (ix2 r c) = win X ((128 * b + r.val) / 2) (c.val / 2) q := by
  rw [cand_apply, h _ _ (by omega) (by omega) (by omega)]
  unfold win
  congr 1
  omega

/-- The sum of the two picks before the fix-ups, at a pixel of the windows' own rows and columns. -/
theorem raw_apply {a c : V136 Ideal} {A C : Arr} {b : ℕ} (hb : b < 16) (ha : Holds a A b) (hc : Holds c C b) (r : Fin 128)
    (l : Fin 2048) (hr : 128 * b + r.val < 2046) (hl : l.val < 2046) :
    ∃ x y, PickMin A C ((128 * b + r.val) / 2) (l.val / 2) x ∧ PickMax A C ((128 * b + r.val) / 2) (l.val / 2) y
      ∧ addf (scanMin (absf (subf a c)) c).2 (scanMax (absf (subf a c)) c).2 (ix2 r l) = x + y := by
  have hd : (fun q => cand (absf (subf a c)) q (ix2 r l)) = Pick.dist A C ((128 * b + r.val) / 2) (l.val / 2) := by
    funext q
    unfold Pick.dist
    rw [← cand_win hb ha q r l hr hl, ← cand_win hb hc q r l hr hl, cand_apply, cand_apply, cand_apply]
    rfl
  obtain ⟨p, hp, ep⟩ := scanMin_apply (absf (subf a c)) c (ix2 r l)
  obtain ⟨q, hq, eq⟩ := scanMax_apply (absf (subf a c)) c (ix2 r l)
  rw [hd] at hp hq
  refine ⟨_, _, ⟨p, hp, rfl⟩, ⟨q, hq, rfl⟩, ?_⟩
  rw [← cand_win hb hc p r l hr hl, ← cand_win hb hc q r l hr hl, ← ep, ← eq]
  rfl

/-- The kernel's constant 2.0, as a number. -/
theorem two_bits : Ideal.ofBits .f32 0x40000000#32 = 2 := by
  simp [Ideal.ofBits, Ideal.ieee, -EReal.coe_mul]; norm_num; rfl

/-- Twice an extended real is its sum with itself. -/
theorem two_mul_ereal (x : EReal) : 2 * x = x + x := by
  rw [← one_add_one_eq_two, EReal.right_distrib_of_nonneg zero_le_one zero_le_one, one_mul]

/-- The word of a block's row number, counted in the whole array. -/
theorem row_word (b n : ℕ) (hb : b < 16) (r : Fin 128) (hn : n < 2048) :
    IntOp.cmpi CmpIPredicate.eq (IntOp.addi (BitVec.ofNat 32 r.val) (Scalar.muli (BitVec.ofNat 32 b) 128#32)) (BitVec.ofNat 32 n)
      = BitVec.ofBool (decide (128 * b + r.val = n)) := by
  have e : IntOp.addi (BitVec.ofNat 32 r.val) (Scalar.muli (BitVec.ofNat 32 b) 128#32) = BitVec.ofNat 32 (128 * b + r.val) := by
    apply BitVec.eq_of_toNat_eq
    show (BitVec.ofNat 32 r.val + BitVec.ofNat 32 b * 128#32).toNat = _
    simp only [BitVec.toNat_add, BitVec.toNat_mul, BitVec.toNat_ofNat]
    omega
  rw [e]
  word_cmp

/-- The word of a column number. -/
theorem col_word (n : ℕ) (c : Fin 2048) (hn : n < 2048) :
    IntOp.cmpi CmpIPredicate.eq (BitVec.ofNat 32 c.val) (BitVec.ofNat 32 n) = BitVec.ofBool (decide (c.val = n)) := by
  word_cmp

set_option maxRecDepth 16384 in
/-- The column fix-up at an index. -/
theorem fixC_apply (x : V128 Ideal) (r : Fin 128) (c : Fin 2048) :
    fixC x (ix2 r c) = if c.val = 2046 then x (ix2 r ⟨2044, by decide⟩) else x (ix2 r c) := by
  pointwise [fixC, colG, rotC]
  rw [col_word 2046 c (by decide), Scalar.select_decide]
  split
  · congr 2; apply Fin.ext; dsimp only; omega
  · rfl

/-- The row fix-up at an index. -/
theorem fixR_apply (b : ℕ) (hb : b < 16) (x : V128 Ideal) (r : Fin 128) (c : Fin 2048) :
    fixR (Scalar.muli (BitVec.ofNat 32 b) 128#32) x (ix2 r c)
      = if 128 * b + r.val = 2046 then x (ix2 ⟨124, by decide⟩ c) else x (ix2 r c) := by
  pointwise [fixR, rowG]
  rw [row_word b 2046 hb r (by decide), Scalar.select_decide]
  split
  · congr 2; apply Fin.ext; dsimp only; omega
  · rfl

/-- The edge at an index. -/
theorem fixEdge_apply (b : ℕ) (hb : b < 16) (k : V136 Ideal) (x : V128 Ideal) (r : Fin 128) (c : Fin 2048) :
    fixEdge (Scalar.muli (BitVec.ofNat 32 b) 128#32) k x (ix2 r c)
      = if 128 * b + r.val = 2047 ∨ c.val = 2047 then (sl k r.val c.val + sl k r.val c.val : EReal) else x (ix2 r c) := by
  pointwise [fixEdge, rowG, colG]
  rw [row_word b 2047 hb r (by decide), col_word 2047 c (by decide), sl_eq k ⟨r.val, by omega⟩ c r.val c.val (by dsimp only; omega) (by omega)]
  have e : IntOp.ori (BitVec.ofBool (decide (128 * b + r.val = 2047))) (BitVec.ofBool (decide (c.val = 2047)))
      = BitVec.ofBool (decide (128 * b + r.val = 2047 ∨ c.val = 2047)) := by
    by_cases h1 : 128 * b + r.val = 2047 <;> by_cases h2 : c.val = 2047 <;> simp only [h1, h2] <;> decide
  rw [e, Scalar.select_decide]
  split
  · rw [two_bits, two_mul_ereal]
  · rfl

/-- THE BODY AT AN INDEX: at row `r` of grid point `b`'s block and column `c` it is what `Pool` says of the two arrays whose
    rows its slabs hold. -/
theorem block_pool {a k : V136 Ideal} {A C : Arr} {b : ℕ} (hb : b < 16) (ha : Holds a A b) (hk : Holds k C b) (r : Fin 128)
    (c : Fin 2048) : Pool A C (128 * b + r.val) c.val (block (Scalar.muli (BitVec.ofNat 32 b) 128#32) a k (ix2 r c)) := by
  unfold block Pool
  rw [fixEdge_apply b hb]
  split
  · rw [hk _ _ (by omega) c.isLt (by omega)]
  · rename_i hne
    rw [fixR_apply b hb, fixC_apply, fixC_apply]
    have key : ∀ (r' : Fin 128) (c' : Fin 2048), 128 * b + r'.val < 2046 → c'.val < 2046 →
        (128 * b + r'.val) / 2 = min ((128 * b + r.val) / 2) 1022 → c'.val / 2 = min (c.val / 2) 1022 →
        ∃ x y, PickMin A C (min ((128 * b + r.val) / 2) 1022) (min (c.val / 2) 1022) x ∧ PickMax A C (min ((128 * b + r.val) / 2) 1022) (min (c.val / 2) 1022) y
          ∧ addf (scanMin (absf (subf a k)) k).2 (scanMax (absf (subf a k)) k).2 (ix2 r' c') = x + y := by
      intro r' c' h1 h2 h3 h4
      rw [← h3, ← h4]
      exact raw_apply hb ha hk r' c' h1 h2
    split <;> split
    all_goals
      refine key _ _ ?_ ?_ ?_ ?_ <;> (try dsimp only) <;> omega

end Cert.PoolBody

end
-- ==== Proof.KernelValue.lean ====
/-
  From the blocks to the arrays: the slabs of a grid point are the rows of the argument arrays from row `128 t` on, so every
  entry of the two result arrays is what `Pool` says.
-/
module

public import proofs.«01_k».proof.Proof.BlockValue
public import proofs.«01_k».proof.Proof.Gen.KernelIdeal.Frame
public import Idealize.ShloMosaic.Lib.Pipeline.ValueKit

@[expose] public section

set_option maxRecDepth 16384

noncomputable section

namespace Cert.PoolBody

open Cert.KernelIdeal Cert.KernelIdeal.Gen Idealize.ShloMosaic Idealize.ShloMosaic.TcCoe Idealize.SL.Sem Cert.Pick
open Idealize.ShloMosaic.Pipeline (Dat)

variable (m : (ℓ : Loc nD τ sig) → Buf (Elt Ideal) ℓ)

/-- The block index of every window at every grid point. -/
theorem idx : ∀ t : Fin cfg0.N, (grid0.coords t 0).val = t.val ∧ t.val < 16
    ∧ win0_0.index t = ![t.val, 0] ∧ win0_1.index t = ![t.val, 0] ∧ win0_2.index t = ![t.val, 0]
    ∧ win0_3.index t = ![min ((t.val + 1) * 16) 255, 0] ∧ win0_4.index t = ![min ((t.val + 1) * 16) 255, 0]
    ∧ win0_5.index t = ![min ((t.val + 1) * 16) 255, 0]
    ∧ win0_6.index t = ![t.val, 0] ∧ win0_7.index t = ![t.val, 0] :=
  (by decide +kernel : ∀ t : Fin grid0.N, _)

/-- A slab read by the numbers of a row and a column. -/
theorem sl_slab (x : Vec Ideal S128x2048 .f32) (y : Vec Ideal S8x2048 .f32) (r c : ℕ) (hr : r < 136) (hc : c < 2048) :
    sl (slab x y) r c = if h : r < 128 then x (ix2 ⟨r, h⟩ ⟨c, hc⟩) else y (ix2 ⟨r - 128, by omega⟩ ⟨c, hc⟩) := by
  rw [← sl_eq (slab x y) ⟨r, hr⟩ ⟨c, hc⟩ r c (Nat.mod_eq_of_lt hr) (Nat.mod_eq_of_lt hc)]
  pointwise [slab]

/-- An entry by numbers that are the row and the column of an index. -/
theorem at2_idx (X : Arr) (r c : ℕ) (hr : r < 2048) (hc : c < 2048) : at2 X r c = X (ix2 ⟨r, hr⟩ ⟨c, hc⟩) :=
  at2_ix2 X ⟨r, hr⟩ ⟨c, hc⟩

/-- An index is the pair of its coordinates. -/
theorem ix2_self (y : S128x2048.Idx) : ix2 (y 0) (y 1) = y := by
  funext a
  match a with
  | 0 => rfl
  | 1 => rfl

/-- What a block holds at an index, of the arrays its slabs come from. -/
theorem block_pool_at {a k : V136 Ideal} {A C : Arr} {b : ℕ} (hb : b < 16) (ha : Holds a A b) (hk : Holds k C b)
    (y : S128x2048.Idx) : Pool A C (b * 128 + (y 0).val) (y 1).val
      (block (Scalar.muli (BitVec.ofNat 32 b) 128#32) a k y) := by
  have h := block_pool hb ha hk (y 0) (y 1)
  rw [Nat.mul_comm 128 b] at h
  exact Eq.subst (motive := fun z => Pool A C (b * 128 + (y 0).val) (y 1).val
    (block (Scalar.muli (BitVec.ofNat 32 b) 128#32) a k z)) (ix2_self y) h

/-- The slab of the anchor holds its rows from row `128 t` on. -/
theorem holds_A (c : Dev nD) (t : Fin cfg0.N) :
    Holds (slab (iblk m c 0 t) (iblk m c 3 t)) (m ((c : Thread nD τ).loc main_arg0)) t.val := by
  intro r l hr hl hd
  obtain ⟨-, ht, h0, h1, h2, h3, h4, h5, -, -⟩ := idx t
  rw [sl_slab _ _ _ _ hr hl, at2_idx _ _ _ (by omega) hl]
  split
  · blk_ext [iblk, V, h0]
  · blk_ext [iblk, V, h3]

/-- The slab of the first comparison array holds its rows from row `128 t` on. -/
theorem holds_P (c : Dev nD) (t : Fin cfg0.N) :
    Holds (slab (iblk m c 1 t) (iblk m c 4 t)) (m ((c : Thread nD τ).loc main_arg1)) t.val := by
  intro r l hr hl hd
  obtain ⟨-, ht, h0, h1, h2, h3, h4, h5, -, -⟩ := idx t
  rw [sl_slab _ _ _ _ hr hl, at2_idx _ _ _ (by omega) hl]
  split
  · blk_ext [iblk, V, h1]
  · blk_ext [iblk, V, h4]

/-- The slab of the second comparison array holds its rows from row `128 t` on. -/
theorem holds_N (c : Dev nD) (t : Fin cfg0.N) :
    Holds (slab (iblk m c 2 t) (iblk m c 5 t)) (m ((c : Thread nD τ).loc main_arg2)) t.val := by
  intro r l hr hl hd
  obtain ⟨-, ht, h0, h1, h2, h3, h4, h5, -, -⟩ := idx t
  rw [sl_slab _ _ _ _ hr hl, at2_idx _ _ _ (by omega) hl]
  split
  · blk_ext [iblk, V, h2]
  · blk_ext [iblk, V, h5]

/-- Every entry of the first result array is what `Pool` says of the anchor and the first comparison array. -/
theorem final6 (c : Dev nD) (i : S2048x2048.Idx) :
    Pool (m ((c : Thread nD τ).loc main_arg0)) (m ((c : Thread nD τ).loc main_arg1)) (i 0).val (i 1).val
      ((dats m 0 c).arrAt 6 cfg0.N i) := by
  refine (dats m 0 c).arrAt_forall_of_covers 6 (fun i v => Pool (m ((c : Thread nD τ).loc main_arg0))
    (m ((c : Thread nD τ).loc main_arg1)) (i 0).val (i 1).val v) (by decide +kernel) (fun t hf y => ?_) i
  obtain ⟨hc0, ht, -, -, -, -, -, -, h6, h7⟩ := idx t
  blk_simp [h6]
  rw [after0_6, out6_eq, hc0]
  exact block_pool_at ht (holds_A m c t) (holds_P m c t) y

/-- Every entry of the second result array is what `Pool` says of the anchor and the second comparison array. -/
theorem final7 (c : Dev nD) (i : S2048x2048.Idx) :
    Pool (m ((c : Thread nD τ).loc main_arg0)) (m ((c : Thread nD τ).loc main_arg2)) (i 0).val (i 1).val
      ((dats m 0 c).arrAt 7 cfg0.N i) := by
  refine (dats m 0 c).arrAt_forall_of_covers 7 (fun i v => Pool (m ((c : Thread nD τ).loc main_arg0))
    (m ((c : Thread nD τ).loc main_arg2)) (i 0).val (i 1).val v) (by decide +kernel) (fun t hf y => ?_) i
  obtain ⟨hc0, ht, -, -, -, -, -, -, h6, h7⟩ := idx t
  blk_simp [h7]
  rw [after0_7, out7_eq, hc0]
  exact block_pool_at ht (holds_A m c t) (holds_N m c t) y

end Cert.PoolBody
-- ==== Proof.RefBody.lean ====
/-
  The reference's two results, cut into the steps it is made of: the windows' index table, the windows, the distances of
  their entries, the word of the first best position, the entry there, and the pool that hands every pixel its window's pick.
-/
module

public import proofs.«01_k».proof.Proof.Gen.ReferenceIdeal.Run

@[expose] public section

noncomputable section

namespace Cert.PoolRef

open Cert.ReferenceIdeal Cert.ReferenceIdeal.Gen Cert.ReferenceIdeal.Value Idealize.ShloMosaic Idealize.ShloMosaic.TcCoe
  Idealize.ShloMosaic.StableHlo

variable {F : FTy → Type} [FloatOps F]

/-- The table of a window's rows (or columns): entry `(i, p)` is the word of `2 i + p`. -/
def table : IVec S1023x3 32 :=
  addi (broadcastInDim S1023x3 ![0, 1] bcast_S1023x1_S1023x3_0_1 (broadcastInDim S1023x1 ![0] bcast_S1023_S1023x1_0
    (muli (iotaInDim S1023 32 0) (broadcastInDim S1023 ![] bcast_S_S1023 (constantI S_ 32 2#32)))))
    (broadcastInDim S1023x3 ![0, 1] bcast_S1x3_S1023x3_0_1 (broadcastInDim S1x3 ![1] bcast_S3_S1x3_1 (iotaInDim S3 32 0)))

/-- The rows' table, along the windows' first and third axes. -/
def tableR : IVec S1023x1x3x1 32 := broadcastInDim S1023x1x3x1 ![0, 2] bcast_S1023x3_S1023x1x3x1_0_2 table

/-- The columns' table, along the windows' second and fourth axes. -/
def tableC : IVec S1x1023x1x3 32 := broadcastInDim S1x1023x1x3 ![1, 3] bcast_S1023x3_S1x1023x1x3_1_3 table

/-- The rows' table with negative entries counted from the end. -/
def wrapR : IVec S1023x1x3x1 32 :=
  select (cmpi .slt tableR (broadcastInDim S1023x1x3x1 ![] bcast_S_S1023x1x3x1 (constantI S_ 32 0#32)))
    (addi tableR (broadcastInDim S1023x1x3x1 ![] bcast_S_S1023x1x3x1 (constantI S_ 32 2048#32))) tableR

/-- The columns' table with negative entries counted from the end. -/
def wrapC : IVec S1x1023x1x3 32 :=
  select (cmpi .slt tableC (broadcastInDim S1x1023x1x3 ![] bcast_S_S1x1023x1x3 (constantI S_ 32 0#32)))
    (addi tableC (broadcastInDim S1x1023x1x3 ![] bcast_S_S1x1023x1x3 (constantI S_ 32 2048#32))) tableC

/-- The row and the column of every entry of every window. -/
def places : IVec S1023x1023x3x3x2 32 :=
  concatenate S1023x1023x3x3x2 4
    [⟨S1023x1023x3x3x1, (broadcastInDim S1023x1023x3x3x1 ![0, 1, 2, 3] bcast_S1023x1023x3x3_S1023x1023x3x3x1_0_1_2_3
        (broadcastInDim S1023x1023x3x3 ![0, 1, 2, 3] bcast_S1023x1x3x1_S1023x1023x3x3_0_1_2_3 wrapR))⟩,
      ⟨S1023x1023x3x3x1, (broadcastInDim S1023x1023x3x3x1 ![0, 1, 2, 3] bcast_S1023x1023x3x3_S1023x1023x3x3x1_0_1_2_3
        (broadcastInDim S1023x1023x3x3 ![0, 1, 2, 3] bcast_S1x1023x1x3_S1023x1023x3x3_0_1_2_3 wrapC))⟩]
    concatenates_S1023x1023x3x3x1_S1023x1023x3x3x1_S1023x1023x3x3x2_d4

/-- The windows of an array. -/
def windows (X : Vec F S2048x2048 .f32) : Vec F S1023x1023x3x3 .f32 :=
  Host.gather gather_S2048x2048_S1023x1023x3x3x2_S1023x1023x3x3_n_01_n_n_01_4_11 X places

/-- The windows with their nine entries in one row. -/
def flat (W : Vec F S1023x1023x3x3 .f32) : Vec F S1023x1023x9 .f32 :=
  shapeCast _ W shapeCasts_S1023x1023x3x3_S1023x1023x9

/-- The distances of the windows' entries. -/
def dists (A C : Vec F S2048x2048 .f32) : Vec F S1023x1023x9 .f32 :=
  flat (Host.absf (subf (windows A) (windows C)))

/-- The least distance of every window. -/
def least (D : Vec F S1023x1023x9 .f32) : Vec F S1023x1023 .f32 :=
  Host.reduce FloatOps.minimumf D (constant S_ .f32 0x7F800000#32) reducesTo_S1023x1023x9_S1023x1023_d2 h_S_

/-- The greatest distance of every window. -/
def greatest (D : Vec F S1023x1023x9 .f32) : Vec F S1023x1023 .f32 :=
  Host.reduce FloatOps.maximumf D (constant S_ .f32 0xFF800000#32) reducesTo_S1023x1023x9_S1023x1023_d2 h_S_

/-- The positions whose distance is the one of `B`, 9 elsewhere. -/
def marks (D : Vec F S1023x1023x9 .f32) (B : Vec F S1023x1023 .f32) : IVec S1023x1023x9 32 :=
  select (cmpf .oeq D (broadcastInDim S1023x1023x9 ![0, 1, 2] bcast_S1023x1023x1_S1023x1023x9_0_1_2
      (broadcastInDim S1023x1023x1 ![0, 1] bcast_S1023x1023_S1023x1023x1_0_1 B)))
    (broadcastInDim S1023x1023x9 ![2] bcast_S9_S1023x1023x9_2 (iotaInDim S9 32 0))
    (broadcastInDim S1023x1023x9 ![] bcast_S_S1023x1023x9 (id (constantI S_ 32 9#32)))

/-- The first of the marked positions. -/
def first (M : IVec S1023x1023x9 32) : IVec S1023x1023x1 32 :=
  broadcastInDim S1023x1023x1 ![0, 1] bcast_S1023x1023_S1023x1023x1_0_1
    (Host.reduce IntOp.minsi M (constantI S_ 32 2147483647#32) reducesTo_S1023x1023x9_S1023x1023_d2 h_S_)

/-- A position with negative ones counted from the end, as the index of a gather. -/
def spot (k : IVec S1023x1023x1 32) : IVec S1023x1023x1x1 32 :=
  shapeCast _ (select (cmpi .slt k (broadcastInDim S1023x1023x1 ![] bcast_S_S1023x1023x1 (constantI S_ 32 0#32)))
    (addi k (broadcastInDim S1023x1023x1 ![] bcast_S_S1023x1023x1 (constantI S_ 32 9#32))) k)
    shapeCasts_S1023x1023x1_S1023x1023x1x1

/-- Whether a position lies in a window. -/
def inside (s : IVec S1023x1023x1x1 32) : IVec S1023x1023x1 1 :=
  Host.reduce IntOp.andi (andi (cmpi .sge s (broadcastInDim S1023x1023x1x1 ![] bcast_S_S1023x1023x1x1 (constantI S_ 32 0#32)))
    (cmpi .sle s (broadcastInDim S1023x1023x1x1 ![0, 1, 2, 3] bcast_S1x1x1x1_S1023x1023x1x1_0_1_2_3
      (broadcastInDim S1x1x1x1 ![3] bcast_S1_S1x1x1x1_3 (constantI S1 32 8#32)))))
    (constantI S_ 1 1#1) reducesTo_S1023x1023x1x1_S1023x1023x1_d3 h_S_

/-- The entries of the rows `W` at the positions `s`. -/
def take (W : Vec F S1023x1023x9 .f32) (s : IVec S1023x1023x1x1 32) : Vec F S1023x1023x1 .f32 :=
  Host.gather gather_S1023x1023x9_S1023x1023x1x1_S1023x1023x1_n_2_01_01_2_3_111 W s

/-- The pick of every window: the entry at its position. -/
def picks (W : Vec F S1023x1023x9 .f32) (s : IVec S1023x1023x1x1 32) : Vec F S1023x1023 .f32 :=
  shapeCast _ (select (inside s) (take W s)
    (broadcastInDim S1023x1023x1 ![] bcast_S_S1023x1023x1 (constant S_ .f32 0x7FC00000#32)))
    shapeCasts_S1023x1023x1_S1023x1023

/-- The pixels' numbers along one axis. -/
def pixels : IVec S2048 32 := iotaInDim S2048 32 0

/-- The number 2 the pixels' numbers are halved by. -/
def two : IVec S_ 32 := id (constantI S_ 32 2#32)

/-- The halves of the pixels' numbers, rounded towards zero. -/
def halves : IVec S2048 32 := Host.divsi pixels (broadcastInDim S2048 ![] bcast_S_S2048 two)

/-- The window every pixel belongs to: half its number, rounded down, and 1022 at most. -/
def windowOf : IVec S2048 32 :=
  minsi (select (andi (cmpi .ne (signi pixels) (broadcastInDim S2048 ![] bcast_S_S2048 (signi two)))
      (cmpi .ne (Host.remsi pixels (broadcastInDim S2048 ![] bcast_S_S2048 two))
        (broadcastInDim S2048 ![] bcast_S_S2048 (constantI S_ 32 0#32))))
    (subi halves (broadcastInDim S2048 ![] bcast_S_S2048 (constantI S_ 32 1#32))) halves)
    (broadcastInDim S2048 ![] bcast_S_S2048 (constantI S_ 32 1022#32))

/-- The window of a pixel's row. -/
def ownerR : IVec S2048x1 32 := broadcastInDim S2048x1 ![0] bcast_S2048_S2048x1_0 windowOf

/-- The window of a pixel's column. -/
def ownerC : IVec S1x2048 32 := broadcastInDim S1x2048 ![1] bcast_S2048_S1x2048_1 windowOf

/-- The window of a pixel's row with negative ones counted from the end. -/
def ownerWrapR : IVec S2048x1 32 :=
  select (cmpi .slt ownerR (broadcastInDim S2048x1 ![] bcast_S_S2048x1 (constantI S_ 32 0#32)))
    (addi ownerR (broadcastInDim S2048x1 ![] bcast_S_S2048x1 (constantI S_ 32 1023#32))) ownerR

/-- The window of a pixel's column with negative ones counted from the end. -/
def ownerWrapC : IVec S1x2048 32 :=
  select (cmpi .slt ownerC (broadcastInDim S1x2048 ![] bcast_S_S1x2048 (constantI S_ 32 0#32)))
    (addi ownerC (broadcastInDim S1x2048 ![] bcast_S_S1x2048 (constantI S_ 32 1023#32))) ownerC

/-- The two numbers of every pixel's window. -/
def owners : IVec S2048x2048x2 32 :=
  concatenate S2048x2048x2 2
    [⟨S2048x2048x1, (broadcastInDim S2048x2048x1 ![0, 1] bcast_S2048x2048_S2048x2048x1_0_1
        (broadcastInDim S2048x2048 ![0, 1] bcast_S2048x1_S2048x2048_0_1 ownerWrapR))⟩,
      ⟨S2048x2048x1, (broadcastInDim S2048x2048x1 ![0, 1] bcast_S2048x2048_S2048x2048x1_0_1
        (broadcastInDim S2048x2048 ![0, 1] bcast_S1x2048_S2048x2048_0_1 ownerWrapC))⟩]
    concatenates_S2048x2048x1_S2048x2048x1_S2048x2048x2_d2

/-- Whether a pixel's number lies within three of its window's first. -/
def covered : IVec S2048 1 :=
  cmpi .sle (subi pixels (muli windowOf (broadcastInDim S2048 ![] bcast_S_S2048 (constantI S_ 32 2#32))))
    (broadcastInDim S2048 ![] bcast_S_S2048 (constantI S_ 32 2#32))

/-- Whether a pixel lies in its window. -/
def covers : IVec S2048x2048 1 :=
  andi (broadcastInDim S2048x2048 ![0, 1] bcast_S2048x1_S2048x2048_0_1 (broadcastInDim S2048x1 ![0] bcast_S2048_S2048x1_0 covered))
    (broadcastInDim S2048x2048 ![0, 1] bcast_S1x2048_S2048x2048_0_1 (broadcastInDim S1x2048 ![1] bcast_S2048_S1x2048_1 covered))

/-- Every pixel's window's pick. -/
def spread (P : Vec F S1023x1023 .f32) : Vec F S2048x2048 .f32 :=
  Host.gather gather_S1023x1023_S2048x2048x2_S2048x2048_n_01_n_n_01_2_11 P owners

/-- One pool: every pixel's window's pick, the pixel's own value where it lies in no window. -/
def pooled (P : Vec F S1023x1023 .f32) (C : Vec F S2048x2048 .f32) : Vec F S2048x2048 .f32 :=
  select covers (spread P) C

/-- The sum of the two pools of an anchor `A` and a comparison array `C`. -/
def sumOfPools (A C : Vec F S2048x2048 .f32) : Vec F S2048x2048 .f32 :=
  addf (pooled (picks (flat (windows C)) (spot (first (marks (dists A C) (least (dists A C)))))) C)
    (pooled (picks (flat (windows C)) (spot (first (marks (dists A C) (greatest (dists A C)))))) C)

set_option maxRecDepth 16384 in
/-- The reference's first result is the sum of the pools of its first and second arguments. -/
theorem out0_eq (V0 : Valuation τ sig (Elt F)) : res_out0 V0
    = sumOfPools (V0 (Proc.devRef .tc main_arg0)) (V0 (Proc.devRef .tc main_arg1)) := by
  rfl

set_option maxRecDepth 16384 in
/-- The reference's second result is the sum of the pools of its first and third arguments. -/
theorem out1_eq (V0 : Valuation τ sig (Elt F)) : res_out1 V0
    = sumOfPools (V0 (Proc.devRef .tc main_arg0)) (V0 (Proc.devRef .tc main_arg2)) := by
  rfl

end Cert.PoolRef
-- ==== Proof.RefGather.lean ====
/-
  The reference's three gathers, each read at an index: the operand's entry at the numbers the index array holds.
-/
module

public import proofs.«01_k».proof.Proof.RefBody
public import Idealize.ShloMosaic.Lib.Pointwise

@[expose] public section

set_option maxRecDepth 16384

noncomputable section

namespace Cert.PoolRef

open Cert.ReferenceIdeal Cert.ReferenceIdeal.Gen Cert.ReferenceIdeal.Value Idealize.ShloMosaic Idealize.ShloMosaic.TcCoe
  Idealize.ShloMosaic.StableHlo

variable {α : Type}

/-- A number below the clamp, read off its word. -/
theorem clamp_word (n N : ℕ) (h : n ≤ N) (hN : N < 2 ^ 31) : min (BitVec.ofNat 32 n).toInt.toNat N = n := by
  have : (BitVec.ofNat 32 n).toInt = (n : ℤ) := by
    rw [BitVec.toInt_eq_toNat_cond, BitVec.toNat_ofNat, Nat.mod_eq_of_lt (by omega), if_pos (by omega)]
  rw [this]
  omega

/-- An entry of a window: the array's entry at the row and the column the index array holds for it. -/
theorem gather_window (X : S2048x2048.Idx → α) (k : IVec S1023x1023x3x3x2 32) (i j : Fin 1023) (p q : Fin 3) (r c : Fin 2048)
    (hr : k (ix5 i j p q (0 : Fin 2)) = BitVec.ofNat 32 r.val) (hc : k (ix5 i j p q (1 : Fin 2)) = BitVec.ofNat 32 c.val) :
    Host.gather gather_S2048x2048_S1023x1023x3x3x2_S1023x1023x3x3_n_01_n_n_01_4_11 X k (ix4 i j p q) = X (ix2 r c) := by
  unfold Host.gather
  refine congrArg X (funext fun a => Fin.ext ?_)
  show GatherDims.start _ (ix4 i j p q) k a + GatherDims.batchCoord _ (ix4 i j p q) a + GatherDims.offCoord _ (ix4 i j p q) a = _
  have m0 : (0 : Fin 2) ∈ ([0, 1] : List (Fin 2)) := by decide
  have m1 : (1 : Fin 2) ∈ ([0, 1] : List (Fin 2)) := by decide
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈
      gather_S2048x2048_S1023x1023x3x3x2_S1023x1023x3x3_n_01_n_n_01_4_11.startIndexMap from m0)]
    have e : GatherDims.siIdx gather_S2048x2048_S1023x1023x3x3x2_S1023x1023x3x3_n_01_n_n_01_4_11 (ix4 i j p q)
        ⟨List.idxOf (0 : Fin 2)
          gather_S2048x2048_S1023x1023x3x3x2_S1023x1023x3x3_n_01_n_n_01_4_11.startIndexMap, List.idxOf_lt_length_iff.2 m0⟩ = ix5 i j p q (0 : Fin 2) := by
      funext b; refine Fin.ext ?_
      match b with
      | ⟨0, _⟩ => rfl
      | ⟨1, _⟩ => rfl
      | ⟨2, _⟩ => rfl
      | ⟨3, _⟩ => rfl
      | ⟨4, _⟩ => rfl
    exact (congrArg (fun w : BitVec 32 => min w.toInt.toNat 2047) ((congrArg k e).trans hr)).trans
      (clamp_word r.val 2047 (by omega) (by decide))
  · rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈
      gather_S2048x2048_S1023x1023x3x3x2_S1023x1023x3x3_n_01_n_n_01_4_11.startIndexMap from m1)]
    have e : GatherDims.siIdx gather_S2048x2048_S1023x1023x3x3x2_S1023x1023x3x3_n_01_n_n_01_4_11 (ix4 i j p q)
        ⟨List.idxOf (1 : Fin 2)
          gather_S2048x2048_S1023x1023x3x3x2_S1023x1023x3x3_n_01_n_n_01_4_11.startIndexMap, List.idxOf_lt_length_iff.2 m1⟩ = ix5 i j p q (1 : Fin 2) := by
      funext b; refine Fin.ext ?_
      match b with
      | ⟨0, _⟩ => rfl
      | ⟨1, _⟩ => rfl
      | ⟨2, _⟩ => rfl
      | ⟨3, _⟩ => rfl
      | ⟨4, _⟩ => rfl
    exact (congrArg (fun w : BitVec 32 => min w.toInt.toNat 2047) ((congrArg k e).trans hc)).trans
      (clamp_word c.val 2047 (by omega) (by decide))

/-- A pixel's entry: the small array's entry at the row and the column the index array holds for it. -/
theorem gather_pixel (P : S1023x1023.Idx → α) (k : IVec S2048x2048x2 32) (r c : Fin 2048) (i j : Fin 1023)
    (hi : k (ix3 r c (0 : Fin 2)) = BitVec.ofNat 32 i.val) (hj : k (ix3 r c (1 : Fin 2)) = BitVec.ofNat 32 j.val) :
    Host.gather gather_S1023x1023_S2048x2048x2_S2048x2048_n_01_n_n_01_2_11 P k (ix2 r c) = P (ix2 i j) := by
  unfold Host.gather
  refine congrArg P (funext fun a => Fin.ext ?_)
  show GatherDims.start _ (ix2 r c) k a + GatherDims.batchCoord _ (ix2 r c) a + GatherDims.offCoord _ (ix2 r c) a = _
  have m0 : (0 : Fin 2) ∈ ([0, 1] : List (Fin 2)) := by decide
  have m1 : (1 : Fin 2) ∈ ([0, 1] : List (Fin 2)) := by decide
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈
      gather_S1023x1023_S2048x2048x2_S2048x2048_n_01_n_n_01_2_11.startIndexMap from m0)]
    have e : GatherDims.siIdx gather_S1023x1023_S2048x2048x2_S2048x2048_n_01_n_n_01_2_11 (ix2 r c)
        ⟨List.idxOf (0 : Fin 2)
          gather_S1023x1023_S2048x2048x2_S2048x2048_n_01_n_n_01_2_11.startIndexMap, List.idxOf_lt_length_iff.2 m0⟩ = ix3 r c (0 : Fin 2) := by
      funext b; refine Fin.ext ?_
      match b with
      | ⟨0, _⟩ => rfl
      | ⟨1, _⟩ => rfl
      | ⟨2, _⟩ => rfl
    exact (congrArg (fun w : BitVec 32 => min w.toInt.toNat 1022) ((congrArg k e).trans hi)).trans
      (clamp_word i.val 1022 (by omega) (by decide))
  · rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈
      gather_S1023x1023_S2048x2048x2_S2048x2048_n_01_n_n_01_2_11.startIndexMap from m1)]
    have e : GatherDims.siIdx gather_S1023x1023_S2048x2048x2_S2048x2048_n_01_n_n_01_2_11 (ix2 r c)
        ⟨List.idxOf (1 : Fin 2)
          gather_S1023x1023_S2048x2048x2_S2048x2048_n_01_n_n_01_2_11.startIndexMap, List.idxOf_lt_length_iff.2 m1⟩ = ix3 r c (1 : Fin 2) := by
      funext b; refine Fin.ext ?_
      match b with
      | ⟨0, _⟩ => rfl
      | ⟨1, _⟩ => rfl
      | ⟨2, _⟩ => rfl
    exact (congrArg (fun w : BitVec 32 => min w.toInt.toNat 1022) ((congrArg k e).trans hj)).trans
      (clamp_word j.val 1022 (by omega) (by decide))

/-- The entry of a row of nine: the one at the position the index array holds for that row. -/
theorem gather_nine (W : S1023x1023x9.Idx → α) (k : IVec S1023x1023x1x1 32) (i j : Fin 1023) (q : Fin 9)
    (hq : k (ix4 i j (0 : Fin 1) (0 : Fin 1)) = BitVec.ofNat 32 q.val) :
    Host.gather gather_S1023x1023x9_S1023x1023x1x1_S1023x1023x1_n_2_01_01_2_3_111 W k (ix3 i j (0 : Fin 1)) = W (ix3 i j q) := by
  unfold Host.gather
  refine congrArg W (funext fun a => Fin.ext ?_)
  show GatherDims.start _ (ix3 i j (0 : Fin 1)) k a + GatherDims.batchCoord _ (ix3 i j (0 : Fin 1)) a
    + GatherDims.offCoord _ (ix3 i j (0 : Fin 1)) a = _
  have m2 : (2 : Fin 3) ∈ ([2] : List (Fin 3)) := by decide
  have b0 : (0 : Fin 3) ∈ ([0, 1] : List (Fin 3)) := by decide
  have b1 : (1 : Fin 3) ∈ ([0, 1] : List (Fin 3)) := by decide
  have n2 : (2 : Fin 3) ∉ ([0, 1] : List (Fin 3)) := by decide
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ b0,
      GatherDims.offCoord_eq_zero _ _ _ (fun h => ((GatherDims.mem_sKept _ _).mp h).2 b0)]
    simp only [Nat.zero_add, Nat.add_zero]
    unfold GatherDims.batchCoord
    rw [dif_pos (show (0 : Fin 3) ∈
      gather_S1023x1023x9_S1023x1023x1x1_S1023x1023x1_n_2_01_01_2_3_111.operandBatchingDims from b0)]
    rfl
  · rw [GatherDims.start_batching _ _ _ _ b1,
      GatherDims.offCoord_eq_zero _ _ _ (fun h => ((GatherDims.mem_sKept _ _).mp h).2 b1)]
    simp only [Nat.zero_add, Nat.add_zero]
    unfold GatherDims.batchCoord
    rw [dif_pos (show (1 : Fin 3) ∈
      gather_S1023x1023x9_S1023x1023x1x1_S1023x1023x1_n_2_01_01_2_3_111.operandBatchingDims from b1)]
    rfl
  · rw [GatherDims.batchCoord_eq_zero _ _ _ n2,
      GatherDims.offCoord_eq_zero _ _ _ (fun h => ((GatherDims.mem_sKept _ _).mp h).1 m2)]
    simp only [Nat.add_zero]
    unfold GatherDims.start
    rw [dif_pos (show (2 : Fin 3) ∈
      gather_S1023x1023x9_S1023x1023x1x1_S1023x1023x1_n_2_01_01_2_3_111.startIndexMap from m2)]
    have e : GatherDims.siIdx gather_S1023x1023x9_S1023x1023x1x1_S1023x1023x1_n_2_01_01_2_3_111 (ix3 i j (0 : Fin 1))
        ⟨List.idxOf (2 : Fin 3)
          gather_S1023x1023x9_S1023x1023x1x1_S1023x1023x1_n_2_01_01_2_3_111.startIndexMap, List.idxOf_lt_length_iff.2 m2⟩ = ix4 i j (0 : Fin 1) (0 : Fin 1) := by
      funext b; refine Fin.ext ?_
      match b with
      | ⟨0, _⟩ => rfl
      | ⟨1, _⟩ => rfl
      | ⟨2, _⟩ => rfl
      | ⟨3, _⟩ => rfl
    exact (congrArg (fun w : BitVec 32 => min w.toInt.toNat 8) ((congrArg k e).trans hq)).trans
      (clamp_word q.val 8 (by omega) (by decide))

end Cert.PoolRef
-- ==== Proof.RefPlaces.lean ====
/-
  The reference's index arrays read at an index: the place of every window's every entry, and the window of every pixel.
-/
module

public import proofs.«01_k».proof.Proof.RefGather
public import Idealize.ShloMosaic.Lib.Tactic.WordOmega

@[expose] public section

set_option maxRecDepth 16384

noncomputable section

namespace Cert.PoolRef

open Cert.ReferenceIdeal Cert.ReferenceIdeal.Gen Cert.ReferenceIdeal.Value Idealize.ShloMosaic Idealize.ShloMosaic.TcCoe
  Idealize.ShloMosaic.StableHlo

/-- A small number's word is not negative, so it is not counted from the end. -/
theorem wrap_word (n : ℕ) (y : BitVec 32) (h : n < 2 ^ 31) :
    Scalar.select (IntOp.cmpi .slt (BitVec.ofNat 32 n) 0#32) y (BitVec.ofNat 32 n) = BitVec.ofNat 32 n := by
  have e : IntOp.cmpi .slt (BitVec.ofNat 32 n) 0#32 = 0#1 := by
    have h0 : (BitVec.ofNat 32 n).slt 0#32 = false := by
      rw [BitVec.slt_eq_decide, decide_eq_false_iff_not, BitVec.toInt_eq_toNat_cond, BitVec.toNat_ofNat,
        Nat.mod_eq_of_lt (by omega), if_pos (by omega)]
      simp
    show BitVec.ofBool _ = _
    rw [h0]; rfl
  rw [e]; rfl

/-- The table's word. -/
theorem table_apply (i : Fin 1023) (p : Fin 3) : table (ix2 i p) = BitVec.ofNat 32 (2 * i.val + p.val) := by
  pointwise [table]
  unfold IntOp.addi IntOp.muli
  word_omega

/-- The rows' table. -/
theorem wrapR_apply (i : Fin 1023) (p : Fin 3) :
    wrapR (ix4 i (0 : Fin 1) p (0 : Fin 1)) = BitVec.ofNat 32 (2 * i.val + p.val) := by
  pointwise [wrapR, tableR]
  rw [table_apply, wrap_word _ _ (by omega)]

/-- The columns' table. -/
theorem wrapC_apply (j : Fin 1023) (q : Fin 3) :
    wrapC (ix4 (0 : Fin 1) j (0 : Fin 1) q) = BitVec.ofNat 32 (2 * j.val + q.val) := by
  pointwise [wrapC, tableC]
  rw [table_apply, wrap_word _ _ (by omega)]

/-- The row of a window's entry. -/
theorem places_row (i j : Fin 1023) (p q : Fin 3) :
    places (ix5 i j p q (0 : Fin 2)) = BitVec.ofNat 32 (2 * i.val + p.val) := by
  pointwise [places]
  exact wrapR_apply i p

/-- The column of a window's entry. -/
theorem places_col (i j : Fin 1023) (p q : Fin 3) :
    places (ix5 i j p q (1 : Fin 2)) = BitVec.ofNat 32 (2 * j.val + q.val) := by
  pointwise [places]
  exact wrapC_apply j q

/-- A window's entry is the array's at its row and column. -/
theorem windows_apply {F : FTy → Type} [FloatOps F] (X : Vec F S2048x2048 .f32) (i j : Fin 1023) (p q : Fin 3) :
    windows X (ix4 i j p q) = X (ix2 ⟨2 * i.val + p.val, by omega⟩ ⟨2 * j.val + q.val, by omega⟩) :=
  gather_window X places i j p q ⟨2 * i.val + p.val, by omega⟩ ⟨2 * j.val + q.val, by omega⟩
    (places_row i j p q) (places_col i j p q)

/-- The nine entries of a window in one row. -/
theorem flat_apply {F : FTy → Type} [FloatOps F] (W : Vec F S1023x1023x3x3 .f32) (i j : Fin 1023) (q : Fin 9) :
    flat W (ix3 i j q) = W (ix4 i j ⟨q.val / 3, by omega⟩ ⟨q.val % 3, by omega⟩) := by
  pointwise [flat]

/-- Half a pixel's number, rounded down and 1022 at most, as the reference computes its word. -/
theorem half_word : ∀ r : Fin 2048, IntOp.minsi
      (Scalar.select
        (IntOp.andi
          (IntOp.cmpi CmpIPredicate.ne
            (if BitVec.ofNat 32 r.val = 0 then 0 else if (BitVec.ofNat 32 r.val).msb = true then -1 else 1)
            (if 2#32 = 0 then 0 else if (2#32).msb = true then -1 else (1 : BitVec 32)))
          (IntOp.cmpi CmpIPredicate.ne (IntOp.remsi ArithUnit.host (BitVec.ofNat 32 r.val) 2#32) 0#32))
        (IntOp.subi (IntOp.divsi ArithUnit.host (BitVec.ofNat 32 r.val) 2#32) 1#32)
        (IntOp.divsi ArithUnit.host (BitVec.ofNat 32 r.val) 2#32))
      1022#32 = BitVec.ofNat 32 (min (r.val / 2) 1022) := by
  decide +kernel

/-- The window a pixel belongs to. -/
theorem windowOf_apply (r : Fin 2048) : windowOf (ix1 r) = BitVec.ofNat 32 (min (r.val / 2) 1022) := by
  pointwise [windowOf, halves, pixels, two]
  exact half_word r

/-- The first number of a pixel's window. -/
theorem owners_row (r c : Fin 2048) : owners (ix3 r c (0 : Fin 2)) = BitVec.ofNat 32 (min (r.val / 2) 1022) := by
  pointwise [owners, ownerWrapR, ownerR]
  rw [windowOf_apply, wrap_word _ _ (by omega)]

/-- The second number of a pixel's window. -/
theorem owners_col (r c : Fin 2048) : owners (ix3 r c (1 : Fin 2)) = BitVec.ofNat 32 (min (c.val / 2) 1022) := by
  pointwise [owners, ownerWrapC, ownerC]
  rw [windowOf_apply, wrap_word _ _ (by omega)]

/-- A pixel's entry is its window's pick. -/
theorem spread_apply {F : FTy → Type} [FloatOps F] (P : Vec F S1023x1023 .f32) (r c : Fin 2048) :
    spread P (ix2 r c) = P (ix2 ⟨min (r.val / 2) 1022, by omega⟩ ⟨min (c.val / 2) 1022, by omega⟩) :=
  gather_pixel P owners r c ⟨min (r.val / 2) 1022, by omega⟩ ⟨min (c.val / 2) 1022, by omega⟩
    (owners_row r c) (owners_col r c)

/-- A pixel's number lies within three of its window's first, unless it is the last. -/
theorem near_word : ∀ r : Fin 2048, IntOp.cmpi .sle
    (IntOp.subi (BitVec.ofNat 32 r.val) (IntOp.muli (BitVec.ofNat 32 (min (r.val / 2) 1022)) 2#32)) 2#32
    = BitVec.ofBool (decide (r.val ≠ 2047)) := by
  decide +kernel

/-- A pixel lies in its window, unless it is in the last row or column. -/
theorem covers_apply (r c : Fin 2048) : covers (ix2 r c) = BitVec.ofBool (decide (¬ (r.val = 2047 ∨ c.val = 2047))) := by
  pointwise [covers, covered, pixels]
  rw [windowOf_apply, windowOf_apply, near_word, near_word]
  by_cases h : r.val = 2047 <;> by_cases h' : c.val = 2047 <;> simp [h, h', IntOp.andi]

end Cert.PoolRef
-- ==== Proof.RefPick.lean ====
/-
  The reference's picks read at an index: the least (greatest) distance of a window, the first position it stands at, and
  the entry there.
-/
module

public import proofs.«01_k».proof.Proof.RefPlaces
public import proofs.«01_k».proof.Proof.Pick

@[expose] public section

set_option maxRecDepth 16384

noncomputable section

namespace Cert.PoolRef

open Cert.ReferenceIdeal Cert.ReferenceIdeal.Gen Cert.ReferenceIdeal.Value Idealize.ShloMosaic Idealize.ShloMosaic.TcCoe
  Idealize.ShloMosaic.StableHlo Cert.Pick

/-- The distance of a window's entry. -/
theorem dists_apply (A C : Vec Ideal S2048x2048 .f32) (i j : Fin 1023) (q : Fin 9) :
    dists A C (ix3 i j q) = Pick.dist A C i.val j.val q := by
  unfold dists
  rw [flat_apply]
  pointwise []
  rw [windows_apply, windows_apply]
  unfold Pick.dist win
  rw [← at2_ix2 A, ← at2_ix2 C]
  rfl

/-- The comparison array's value at a window's position. -/
theorem flat_windows (C : Vec Ideal S2048x2048 .f32) (i j : Fin 1023) (q : Fin 9) :
    flat (windows C) (ix3 i j q) = win C i.val j.val q := by
  rw [flat_apply, windows_apply]
  unfold win
  rw [← at2_ix2 C]

/-- The minimum of nine entries is the first smallest one. -/
theorem fold_min_first {α : Type} [LinearOrder α] (D : Fin 9 → α) (q : Fin 9) (t : α) (ht : ∀ x, D x ≤ t) (h : FirstMin D q) :
    Finset.fold min t D Finset.univ = D q :=
  le_antisymm ((Finset.fold_min_le _).mpr (Or.inr ⟨q, Finset.mem_univ q, le_refl _⟩))
    ((Finset.le_fold_min _).mpr ⟨ht q, fun x _ => h.1 x⟩)

/-- The maximum of nine entries is the first largest one. -/
theorem fold_max_first {α : Type} [LinearOrder α] (D : Fin 9 → α) (q : Fin 9) (t : α) (ht : ∀ x, t ≤ D x) (h : FirstMax D q) :
    Finset.fold max t D Finset.univ = D q :=
  le_antisymm ((Finset.fold_max_le _).mpr ⟨ht q, fun x _ => h.1 x⟩)
    ((Finset.le_fold_max _).mpr (Or.inr ⟨q, Finset.mem_univ q, le_refl _⟩))

/-- The bits the minimum starts from: positive infinity. -/
theorem top_bits : Ideal.ofBits .f32 0x7F800000#32 = ⊤ := by
  simp [Ideal.ofBits, Ideal.ieee]

/-- The bits the maximum starts from: negative infinity. -/
theorem bot_bits : Ideal.ofBits .f32 0xFF800000#32 = ⊥ := by
  simp [Ideal.ofBits, Ideal.ieee]

/-- The least distance of a window is the one at its first smallest position. -/
theorem least_apply (D : Vec Ideal S1023x1023x9 .f32) (i j : Fin 1023) (q : Fin 9) (h : FirstMin (fun p => D (ix3 i j p)) q) :
    least D (ix2 i j) = D (ix3 i j q) := by
  pointwise [least]
  exact fold_min_first (fun p => D (ix3 i j p)) q _ (fun x => by rw [top_bits]; exact le_top) h

/-- The greatest distance of a window is the one at its first largest position. -/
theorem greatest_apply (D : Vec Ideal S1023x1023x9 .f32) (i j : Fin 1023) (q : Fin 9)
    (h : FirstMax (fun p => D (ix3 i j p)) q) : greatest D (ix2 i j) = D (ix3 i j q) := by
  pointwise [greatest]
  exact fold_max_first (fun p => D (ix3 i j p)) q _ (fun x => by rw [bot_bits]; exact bot_le) h

/-- A position that holds the best distance keeps its number, any other has 9. -/
theorem marks_apply (D : Vec Ideal S1023x1023x9 .f32) (B : Vec Ideal S1023x1023 .f32) (i j : Fin 1023) (p : Fin 9) :
    marks D B (ix3 i j p) = BitVec.ofNat 32 (if D (ix3 i j p) = B (ix2 i j) then p.val else 9) := by
  pointwise [marks]
  split
  · rfl
  · rfl

/-- The smaller of two small words. -/
theorem minsi_word (a b : ℕ) (ha : a < 2 ^ 31) (hb : b < 2 ^ 31) :
    IntOp.minsi (BitVec.ofNat 32 a) (BitVec.ofNat 32 b) = BitVec.ofNat 32 (min a b) := by
  have e : ∀ n : ℕ, n < 2 ^ 31 → (BitVec.ofNat 32 n).toInt = (n : ℤ) := fun n hn => by
    rw [BitVec.toInt_eq_toNat_cond, BitVec.toNat_ofNat, Nat.mod_eq_of_lt (by omega), if_pos (by omega)]
  unfold IntOp.minsi
  by_cases h : a < b
  · rw [if_pos (by rw [BitVec.slt_eq_decide, e a ha, e b hb]; simpa using h), Nat.min_eq_left h.le]
  · rw [if_neg (by rw [BitVec.slt_eq_decide, e a ha, e b hb]; simpa using h), Nat.min_eq_right (not_lt.mp h)]

/-- The smallest of nine small words. -/
theorem fold_minsi (n : Fin 9 → ℕ) (t : ℕ) (ht : t < 2 ^ 31) (hn : ∀ x, n x < 2 ^ 31) (s : Finset (Fin 9)) :
    Finset.fold IntOp.minsi (BitVec.ofNat 32 t) (fun x => BitVec.ofNat 32 (n x)) s = BitVec.ofNat 32 (Finset.fold min t n s)
      ∧ Finset.fold min t n s < 2 ^ 31 := by
  classical
  induction s using Finset.induction_on with
  | empty => exact ⟨rfl, ht⟩
  | insert a s ha ih =>
    rw [Finset.fold_insert ha, Finset.fold_insert ha, ih.1, minsi_word _ _ (hn a) ih.2]
    exact ⟨rfl, lt_of_le_of_lt (min_le_left _ _) (hn a)⟩

/-- The first marked position, where the positions marked are those of the value at `q` and `q` is the first of them. -/
theorem first_apply (D : Vec Ideal S1023x1023x9 .f32) (B : Vec Ideal S1023x1023 .f32) (i j : Fin 1023) (q : Fin 9)
    (hB : B (ix2 i j) = D (ix3 i j q)) (hq : ∀ p < q, D (ix3 i j p) ≠ D (ix3 i j q)) :
    first (marks D B) (ix3 i j (0 : Fin 1)) = BitVec.ofNat 32 q.val := by
  pointwise [first]
  simp only [marks_apply, hB]
  refine (fold_minsi (fun p => if D (ix3 i j p) = D (ix3 i j q) then p.val else 9) 2147483647 (by decide)
    (fun x => by split <;> omega) Finset.univ).1.trans (congrArg _ ?_)
  refine le_antisymm ((Finset.fold_min_le _).mpr (Or.inr ⟨q, Finset.mem_univ q, ?_⟩))
    ((Finset.le_fold_min _).mpr ⟨by omega, fun p _ => ?_⟩)
  · rw [if_pos rfl]
  · split
    · rename_i e
      by_contra hlt
      exact hq p (by omega) e
    · omega

/-- A small position's word as the index of the last gather. -/
theorem spot_apply (k : IVec S1023x1023x1 32) (i j : Fin 1023) (q : Fin 9) (hk : k (ix3 i j (0 : Fin 1)) = BitVec.ofNat 32 q.val) :
    spot k (ix4 i j (0 : Fin 1) (0 : Fin 1)) = BitVec.ofNat 32 q.val := by
  pointwise [spot]
  rw [hk, wrap_word _ _ (by omega)]

/-- A position's word lies between 0 and 8. -/
theorem nine_word : ∀ q : Fin 9, IntOp.andi (IntOp.cmpi CmpIPredicate.sge (BitVec.ofNat 32 q.val) 0#32)
    (IntOp.cmpi CmpIPredicate.sle (BitVec.ofNat 32 q.val) 8#32) = 1#1 := by
  decide +kernel

/-- A position of a window lies in the window. -/
theorem inside_apply (s : IVec S1023x1023x1x1 32) (i j : Fin 1023) (q : Fin 9)
    (hs : s (ix4 i j (0 : Fin 1) (0 : Fin 1)) = BitVec.ofNat 32 q.val) : inside s (ix3 i j (0 : Fin 1)) = 1#1 := by
  pointwise [inside]
  rw [show (Finset.univ : Finset (Fin 1)) = {0} from rfl, Finset.fold_singleton, hs, nine_word]
  rfl

/-- A window's pick is the entry at its position. -/
theorem picks_apply (W : Vec Ideal S1023x1023x9 .f32) (s : IVec S1023x1023x1x1 32) (i j : Fin 1023) (q : Fin 9)
    (hs : s (ix4 i j (0 : Fin 1) (0 : Fin 1)) = BitVec.ofNat 32 q.val) : picks W s (ix2 i j) = W (ix3 i j q) := by
  pointwise [picks]
  rw [inside_apply s i j q hs]
  exact gather_nine W s i j q hs

/-- The pick at the first smallest distance. -/
theorem pickMin_apply (A C : Vec Ideal S2048x2048 .f32) (i j : Fin 1023) : PickMin A C i.val j.val
    (picks (flat (windows C)) (spot (first (marks (dists A C) (least (dists A C))))) (ix2 i j)) := by
  obtain ⟨q, hq⟩ := exists_firstMin (Pick.dist A C i.val j.val)
  have hd : (fun p => dists A C (ix3 i j p)) = Pick.dist A C i.val j.val := funext fun p => dists_apply A C i j p
  refine ⟨q, hq, ?_⟩
  rw [picks_apply _ _ i j q (spot_apply _ i j q (first_apply _ _ i j q
    (least_apply _ i j q (by rw [hd]; exact hq)) fun p hp => ?_)), flat_windows]
  rw [dists_apply, dists_apply]
  exact (hq.2 p hp).ne'

/-- The pick at the first largest distance. -/
theorem pickMax_apply (A C : Vec Ideal S2048x2048 .f32) (i j : Fin 1023) : PickMax A C i.val j.val
    (picks (flat (windows C)) (spot (first (marks (dists A C) (greatest (dists A C))))) (ix2 i j)) := by
  obtain ⟨q, hq⟩ := exists_firstMax (Pick.dist A C i.val j.val)
  have hd : (fun p => dists A C (ix3 i j p)) = Pick.dist A C i.val j.val := funext fun p => dists_apply A C i j p
  refine ⟨q, hq, ?_⟩
  rw [picks_apply _ _ i j q (spot_apply _ i j q (first_apply _ _ i j q
    (greatest_apply _ i j q (by rw [hd]; exact hq)) fun p hp => ?_)), flat_windows]
  rw [dists_apply, dists_apply]
  exact (hq.2 p hp).ne

/-- Every entry of a result of the reference is what `Pool` says of the anchor and the comparison array. -/
theorem sumOfPools_pool (A C : Vec Ideal S2048x2048 .f32) (r c : Fin 2048) :
    Pool A C r.val c.val (sumOfPools A C (ix2 r c)) := by
  unfold Pool sumOfPools
  pointwise [pooled]
  rw [covers_apply, Scalar.select_decide, Scalar.select_decide, spread_apply, spread_apply]
  by_cases h : r.val = 2047 ∨ c.val = 2047
  · rw [if_pos h, if_neg (not_not.mpr h), if_neg (not_not.mpr h), at2_ix2]
  · rw [if_neg h, if_pos h, if_pos h]
    exact ⟨_, _, pickMin_apply A C ⟨min (r.val / 2) 1022, by omega⟩ ⟨min (c.val / 2) 1022, by omega⟩,
      pickMax_apply A C ⟨min (r.val / 2) 1022, by omega⟩ ⟨min (c.val / 2) 1022, by omega⟩, rfl⟩

end Cert.PoolRef
-- ==== Proof.Equation.lean ====
/-
  The equation of the claim: each of the kernel's two result arrays is the reference's term over the same arguments.
-/
module

public import proofs.«01_k».proof.Proof.KernelValue
public import proofs.«01_k».proof.Proof.RefPick

@[expose] public section

set_option maxRecDepth 16384

noncomputable section

namespace Cert.PoolEquation

open Idealize.ShloMosaic Idealize.ShloMosaic.TcCoe Idealize.SL.Sem Cert.Pick Cert.PoolBody Cert.PoolRef
open Cert.KernelIdeal Cert.KernelIdeal.Gen

variable (m : (ℓ : Loc nD τ sig) → Buf (Elt Ideal) ℓ)

/-- An array all of whose entries are what `Pool` says is the reference's sum of pools. -/
theorem eq_sumOfPools (A C X : Arr) (h : ∀ i : (⟨2, ![2048, 2048]⟩ : Shape).Idx, Pool A C (i 0).val (i 1).val (X i)) :
    sumOfPools (F := Ideal) A C = X := by
  funext i
  obtain ⟨r, c, rfl⟩ : ∃ r c : Fin 2048, i = ix2 r c := ⟨i 0, i 1, by
    funext a
    match a with
    | 0 => rfl
    | 1 => rfl⟩
  exact (sumOfPools_pool A C r c).unique (h (ix2 r c))

/-- The kernel's first result array is the reference's first term over the kernel's arguments. -/
theorem first_result (c : Dev nD) : sumOfPools (F := Ideal) (m ((c : Thread nD τ).loc main_arg0)) (m ((c : Thread nD τ).loc main_arg1))
    = (dats m 0 c).arrAt 6 cfg0.N :=
  eq_sumOfPools _ _ _ fun i => final6 m c i

/-- The kernel's second result array is the reference's second term over the kernel's arguments. -/
theorem second_result (c : Dev nD) : sumOfPools (F := Ideal) (m ((c : Thread nD τ).loc main_arg0)) (m ((c : Thread nD τ).loc main_arg2))
    = (dats m 0 c).arrAt 7 cfg0.N :=
  eq_sumOfPools _ _ _ fun i => final7 m c i

end Cert.PoolEquation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, keeps its arguments and ends with every semaphore at zero. -/
theorem frame_kernel : Cert.quiescent_Kernel (hKernel := Cert.Kernel.Gen.facts) := fun m g _ => Cert.Kernel.Gen.frame m g

/-- So does the kernel read over the extended reals. -/
theorem frame_kernelIdeal : Cert.quiescent_KernelIdeal (hKernelIdeal := Cert.KernelIdeal.Gen.facts) :=
  fun m g _ => Cert.KernelIdeal.Gen.frame m g

/-- So does the reference. -/
theorem frame_reference : Cert.quiescent_ReferenceIdeal (hReferenceIdeal := Cert.ReferenceIdeal.Gen.facts) := by
  intro m g _
  refine (θ_run _ _ _).mono (fun r h => ⟨fun c => ⟨(h c).2.2.1, (h c).2.2.2.1, (h c).2.2.2.2⟩, ?_⟩)
    (Cert.ReferenceIdeal.Value.run m g)
  exact sem_eq_zero_of_no_sems rfl r.2

/-- From the same arguments the kernel's two results are the reference's two results, entry by entry. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    · have e : Cert.ReferenceIdeal.Value.res_main_v220 (StableHlo.launchContents m' c)
          = Cert.PoolRef.sumOfPools (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1)) :=
        Cert.PoolRef.out0_eq (StableHlo.launchContents m' c)
      rw [e, (hagree c).1, (hagree c).2.1]
      exact Cert.PoolEquation.first_result m c
    · have e : Cert.ReferenceIdeal.Value.res_main_v441 (StableHlo.launchContents m' c)
          = Cert.PoolRef.sumOfPools (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2)) :=
        Cert.PoolRef.out1_eq (StableHlo.launchContents m' c)
      rw [e, (hagree c).1, (hagree c).2.2]
      exact Cert.PoolEquation.second_result m c

/-- The certificate's claim. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
